-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 2048, 4, 64]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 2048, 4, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x4x64 : S_.BroadcastsInDim S2x128x4x64 (![] : Fin 0 → Fin S2x128x4x64.rank)

variable [Facts]

def fn {F : FTy → Type} [FloatOps F] (main_arg0 : FVec F S2x128x512 .bf16) (main_arg1 : FVec F S512x256 .bf16) (main_arg2 : FVec F S2x128x4x64 .bf16) (main_arg3 : FVec F S2x128x4x64 .bf16) (main_arg4 : FVec F S256x512 .bf16) : IVec S2x128x512 1 × IVec S512x256 1 × IVec S2x128x4x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x128x4x64 .bf16 := Host.absf main_arg2
  let main_cst_1 : FVec F S_ .bf16 := constant S_ .bf16 0x7F80#16
  let main_v7 : FVec F S2x128x4x64 .bf16 := broadcastInDim S2x128x4x64 ![] bcast_S_S2x128x4x64 main_cst_1
  let main_v8 : IVec S2x128x4x64 1 := cmpf .olt main_v6 main_v7
  (main_v2, main_v5, main_v8)
-- ==== Pre_finite_ReferenceIdeal.lean ====
abbrev S2x128x512 : Shape := ⟨3, ![2, 128, 512]⟩
abbrev S512x256 : Shape := ⟨2, ![512, 256]⟩
abbrev S2x2048x4x64 : Shape := ⟨4, ![2, 2048, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x2048x4x64 : S_.BroadcastsInDim S2x2048x4x64 (![] : Fin 0 → Fin S2x2048x4x64.rank)

variable [Facts]

def fn {F : FTy → Type} [FloatOps F] (main_arg0 : FVec F S2x128x512 .bf16) (main_arg1 : FVec F S512x256 .bf16) (main_arg2 : FVec F S2x2048x4x64 .bf16) (main_arg3 : FVec F S2x2048x4x64 .bf16) (main_arg4 : FVec F S256x512 .bf16) : IVec S2x128x512 1 × IVec S512x256 1 × IVec S2x2048x4x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x2048x4x64 .bf16 := Host.absf main_arg2
  let main_cst_1 : FVec F S_ .bf16 := constant S_ .bf16 0x7F80#16
  let main_v7 : FVec F S2x2048x4x64 .bf16 := broadcastInDim S2x2048x4x64 ![] bcast_S_S2x2048x4x64 main_cst_1
  let main_v8 : IVec S2x2048x4x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S256x256 : Shape := ⟨2, ![256, 256]⟩
abbrev S256x8 : Shape := ⟨2, ![256, 8]⟩
abbrev S6x256x256 : Shape := ⟨3, ![6, 256, 256]⟩
abbrev S6x256x8 : Shape := ⟨3, ![6, 256, 8]⟩
abbrev S6 : Shape := ⟨1, ![6]⟩
abbrev S128x128 : Shape := ⟨2, ![128, 128]⟩
abbrev S1x128x1x64 : Shape := ⟨4, ![1, 128, 1, 64]⟩
abbrev S128x64 : Shape := ⟨2, ![128, 64]⟩
abbrev S128 : Shape := ⟨1, ![128]⟩
abbrev S128x1 : Shape := ⟨2, ![128, 1]⟩
abbrev S128x256 : Shape := ⟨2, ![128, 256]⟩
abbrev S128x4 : Shape := ⟨2, ![128, 4]⟩
abbrev S256x4 : Shape := ⟨2, ![256, 4]⟩
abbrev S_ : Shape := ⟨0, ![]⟩
abbrev S1 : Shape := ⟨1, ![1]⟩
abbrev S1x256x256 : Shape := ⟨3, ![1, 256, 256]⟩
abbrev S1x256x8 : Shape := ⟨3, ![1, 256, 8]⟩
abbrev S1x256x4 : Shape := ⟨3, ![1, 256, 4]⟩
abbrev S256x64 : Shape := ⟨2, ![256, 64]⟩
abbrev S256x1 : Shape := ⟨2, ![256, 1]⟩
abbrev S1x256x64 : Shape := ⟨3, ![1, 256, 64]⟩

abbrev nBuf : Space → Nat
  | .hbm => 6
  | .vmem => 12
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x4x64, .bf16⟩
  | .hbm, ⟨3, _⟩ => ⟨S2x128x4x64, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S2x128x512, .f32⟩
  | .local _ .vmem, ⟨6, _⟩ => ⟨S256x256, .f32⟩
  | .local _ .vmem, ⟨7, _⟩ => ⟨S256x256, .bf16⟩
  | .local _ .vmem, ⟨8, _⟩ => ⟨S256x8, .f32⟩
  | .local _ .vmem, ⟨9, _⟩ => ⟨S256x8, .f32⟩
  | .local _ .vmem, ⟨10, _⟩ => ⟨S6x256x256, .bf16⟩
  | .local _ .vmem, ⟨11, _⟩ => ⟨S6x256x8, .f32⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_148 : BitVec 32 := 1#32
  let v296 : BitVec 32 := Scalar.xori v2 c1_i32_148
  let c1_i32_150 : BitVec 32 := 1#32
  let v297 : BitVec 32 := Scalar.muli v296 c1_i32_150
  let v298 : BitVec 32 := Scalar.addi c0_i32_151 v297
  v298.toNat
def k0_dev2 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_152 : BitVec 32 := 2#32
  let v299 : BitVec 32 := Scalar.xori v2 c2_i32_152
  let c1_i32_154 : BitVec 32 := 1#32
  let v300 : BitVec 32 := Scalar.muli v299 c1_i32_154
  let v301 : BitVec 32 := Scalar.addi c0_i32_155 v300
  v301.toNat
def k0_dev3 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v302 : BitVec 32 := Scalar.xori v2 c3_i32
  let c1_i32_157 : BitVec 32 := 1#32
  let v303 : BitVec 32 := Scalar.muli v302 c1_i32_157
  let v304 : BitVec 32 := Scalar.addi c0_i32_158 v303
  v304.toNat
def k0_dev4 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_159 : BitVec 32 := 4#32
  let v305 : BitVec 32 := Scalar.xori v2 c4_i32_159
  let c1_i32_161 : BitVec 32 := 1#32
  let v306 : BitVec 32 := Scalar.muli v305 c1_i32_161
  let v307 : BitVec 32 := Scalar.addi c0_i32_162 v306
  v307.toNat
def k0_dev5 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v308 : BitVec 32 := Scalar.xori v2 c8_i32
  let c1_i32_164 : BitVec 32 := 1#32
  let v309 : BitVec 32 := Scalar.muli v308 c1_i32_164
  let v310 : BitVec 32 := Scalar.addi c0_i32_165 v309
  v310.toNat
def k0_dev6 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v311 : BitVec 32 := Scalar.xori v2 c12_i32
  let c1_i32_167 : BitVec 32 := 1#32
  let v312 : BitVec 32 := Scalar.muli v311 c1_i32_167
  let v313 : BitVec 32 := Scalar.addi c0_i32_168 v312
  v313.toNat
def k0_dev7 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_169 : BitVec 32 := 1#32
  let v314 : BitVec 32 := Scalar.xori v2 c1_i32_169
  let c1_i32_173 : BitVec 32 := 1#32
  let v315 : BitVec 32 := Scalar.muli v314 c1_i32_173
  let v316 : BitVec 32 := Scalar.addi c0_i32_174 v315
  v316.toNat
def k0_dev8 (d0 : Dev nD) : Nat :=
  let c0_i32_181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_169 : BitVec 32 := 1#32
  let v314 : BitVec 32 := Scalar.xori v2 c1_i32_169
  let c1_i32_180 : BitVec 32 := 1#32
  let v323 : BitVec 32 := Scalar.muli v314 c1_i32_180
  let v324 : BitVec 32 := Scalar.addi c0_i32_181 v323
  v324.toNat
def k0_dev9 (d0 : Dev nD) : Nat :=
  let c0_i32_189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_184 : BitVec 32 := 2#32
  let v331 : BitVec 32 := Scalar.xori v2 c2_i32_184
  let c1_i32_188 : BitVec 32 := 1#32
  let v332 : BitVec 32 := Scalar.muli v331 c1_i32_188
  let v333 : BitVec 32 := Scalar.addi c0_i32_189 v332
  v333.toNat
def k0_dev10 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_184 : BitVec 32 := 2#32
  let v331 : BitVec 32 := Scalar.xori v2 c2_i32_184
  let c1_i32_195 : BitVec 32 := 1#32
  let v340 : BitVec 32 := Scalar.muli v331 c1_i32_195
  let v341 : BitVec 32 := Scalar.addi c0_i32_196 v340
  v341.toNat
def k0_dev11 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_199 : BitVec 32 := 3#32
  let v348 : BitVec 32 := Scalar.xori v2 c3_i32_199
  let c1_i32_203 : BitVec 32 := 1#32
  let v349 : BitVec 32 := Scalar.muli v348 c1_i32_203
  let v350 : BitVec 32 := Scalar.addi c0_i32_204 v349
  v350.toNat
def k0_dev12 (d0 : Dev nD) : Nat :=
  let c0_i32_211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_199 : BitVec 32 := 3#32
  let v348 : BitVec 32 := Scalar.xori v2 c3_i32_199
  let c1_i32_210 : BitVec 32 := 1#32
  let v357 : BitVec 32 := Scalar.muli v348 c1_i32_210
  let v358 : BitVec 32 := Scalar.addi c0_i32_211 v357
  v358.toNat
def k0_dev13 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_379 : BitVec 32 := 4#32
  let v595 : BitVec 32 := Scalar.xori v2 c4_i32_379
  let c1_i32_383 : BitVec 32 := 1#32
  let v596 : BitVec 32 := Scalar.muli v595 c1_i32_383
  let v597 : BitVec 32 := Scalar.addi c0_i32_384 v596
  v597.toNat
def k0_dev14 (d0 : Dev nD) : Nat :=
  let c0_i32_391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_379 : BitVec 32 := 4#32
  let v595 : BitVec 32 := Scalar.xori v2 c4_i32_379
  let c1_i32_390 : BitVec 32 := 1#32
  let v604 : BitVec 32 := Scalar.muli v595 c1_i32_390
  let v605 : BitVec 32 := Scalar.addi c0_i32_391 v604
  v605.toNat
def k0_dev15 (d0 : Dev nD) : Nat :=
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_394 : BitVec 32 := 8#32
  let v612 : BitVec 32 := Scalar.xori v2 c8_i32_394
  let c1_i32_398 : BitVec 32 := 1#32
  let v613 : BitVec 32 := Scalar.muli v612 c1_i32_398
  let v614 : BitVec 32 := Scalar.addi c0_i32_399 v613
  v614.toNat
def k0_dev16 (d0 : Dev nD) : Nat :=
  let c0_i32_406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_394 : BitVec 32 := 8#32
  let v612 : BitVec 32 := Scalar.xori v2 c8_i32_394
  let c1_i32_405 : BitVec 32 := 1#32
  let v621 : BitVec 32 := Scalar.muli v612 c1_i32_405
  let v622 : BitVec 32 := Scalar.addi c0_i32_406 v621
  v622.toNat
def k0_dev17 (d0 : Dev nD) : Nat :=
  let c0_i32_413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_409 : BitVec 32 := 12#32
  let v629 : BitVec 32 := Scalar.xori v2 c12_i32_409
  let c1_i32_412 : BitVec 32 := 1#32
  let v630 : BitVec 32 := Scalar.muli v629 c1_i32_412
  let v631 : BitVec 32 := Scalar.addi c0_i32_413 v630
  v631.toNat
def k0_dev18 (d0 : Dev nD) : Nat :=
  let c0_i32_420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_409 : BitVec 32 := 12#32
  let v629 : BitVec 32 := Scalar.xori v2 c12_i32_409
  let c1_i32_419 : BitVec 32 := 1#32
  let v638 : BitVec 32 := Scalar.muli v629 c1_i32_419
  let v639 : BitVec 32 := Scalar.addi c0_i32_420 v638
  v639.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x128x512 : Shape := ⟨3, ![2, 128, 512]⟩
abbrev S512x256 : Shape := ⟨2, ![512, 256]⟩
abbrev S2x2048x4x64 : Shape := ⟨4, ![2, 2048, 4, 64]⟩
abbrev S256x512 : Shape := ⟨2, ![256, 512]⟩
abbrev S2x128x256 : Shape := ⟨3, ![2, 128, 256]⟩
abbrev S2x128x4x64 : Shape := ⟨4, ![2, 128, 4, 64]⟩
abbrev S128 : Shape := ⟨1, ![128]⟩
abbrev S_ : Shape := ⟨0, ![]⟩
abbrev S128x1 : Shape := ⟨2, ![128, 1]⟩
abbrev S2048 : Shape := ⟨1, ![2048]⟩
abbrev S1x2048 : Shape := ⟨2, ![1, 2048]⟩
abbrev S128x2048 : Shape := ⟨2, ![128, 2048]⟩
abbrev S2x4x128x2048 : Shape := ⟨4, ![2, 4, 128, 2048]⟩
abbrev S1x1x128x2048 : Shape := ⟨4, ![1, 1, 128, 2048]⟩
abbrev S2x4x128 : Shape := ⟨3, ![2, 4, 128]⟩
abbrev S2x4x128x1 : Shape := ⟨4, ![2, 4, 128, 1]⟩
abbrev S1x1x128x1 : Shape := ⟨4, ![1, 1, 128, 1]⟩
abbrev S2x4x64x128 : Shape := ⟨4, ![2, 4, 64, 128]⟩

abbrev nBuf : Space → Nat
  | .hbm => 142
  | .vmem => 0
  | .smem => 0
  | _ => 0

abbrev hbmTy0_0 (i : Nat) : BufTy := match i % 128 with
  | 0 => ⟨S2x128x512, .bf16⟩
  | 1 => ⟨S512x256, .bf16⟩
  | 2 => ⟨S2x2048x4x64, .bf16⟩
  | 3 => ⟨S2x2048x4x64, .bf16⟩
  | 4 => ⟨S256x512, .bf16⟩
  | 5 => ⟨S2x128x512, .f32⟩
  | 6 => ⟨S512x256, .f32⟩
  | 7 => ⟨S2x2048x4x64, .f32⟩
  | 8 => ⟨S2x2048x4x64, .f32⟩
  | 9 => ⟨S256x512, .f32⟩
  | 10 => ⟨S2x128x256, .f32⟩
  | 11 => ⟨S2x128x4x64, .f32⟩
  | 12 => ⟨S128, .i32⟩
  | 13 => ⟨S_, .i32⟩
  | 14 => ⟨S_, .i32⟩
  | 15 => ⟨S128, .i32⟩
  | 16 => ⟨S128, .i32⟩
  | 17 => ⟨S128, .i32⟩
  | 18 => ⟨S_, .i32⟩
  | 19 => ⟨S128, .i32⟩
  | 20 => ⟨S128, .i1⟩
  | 21 => ⟨S128, .i32⟩
  | 22 => ⟨S128, .i32⟩
  | 23 => ⟨S_, .i32⟩
  | 24 => ⟨S128, .i32⟩
  | 25 => ⟨S128, .i1⟩
  | 26 => ⟨S128, .i1⟩
  | 27 => ⟨S_, .i32⟩
  | 28 => ⟨S128, .i32⟩
  | 29 => ⟨S128, .i32⟩
  | 30 => ⟨S128, .i32⟩
  | 31 => ⟨S128x1, .i32⟩
  | 32 => ⟨S2048, .i32⟩
  | 33 => ⟨S_, .i32⟩
  | 34 => ⟨S_, .i32⟩
  | 35 => ⟨S2048, .i32⟩
  | 36 => ⟨S2048, .i32⟩
  | 37 => ⟨S2048, .i32⟩
  | 38 => ⟨S_, .i32⟩
  | 39 => ⟨S2048, .i32⟩
  | 40 => ⟨S2048, .i1⟩
  | 41 => ⟨S2048, .i32⟩
  | 42 => ⟨S2048, .i32⟩
  | 43 => ⟨S_, .i32⟩
  | 44 => ⟨S2048, .i32⟩
  | 45 => ⟨S2048, .i1⟩
  | 46 => ⟨S2048, .i1⟩
  | 47 => ⟨S_, .i32⟩
  | 48 => ⟨S2048, .i32⟩
  | 49 => ⟨S2048, .i32⟩
  | 50 => ⟨S2048, .i32⟩
  | 51 => ⟨S1x2048, .i32⟩
  | 52 => ⟨S128x2048, .i32⟩
  | 53 => ⟨S128x2048, .i32⟩
  | 54 => ⟨S128x2048, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1x2048, .i32⟩
  | 62 => ⟨S1x2048, .i32⟩
  | 63 => ⟨S_, .i32⟩
  | 64 => ⟨S1x2048, .i32⟩
  | 65 => ⟨S1x2048, .i1⟩
  | 66 => ⟨S_, .i32⟩
  | 67 => ⟨S1x2048, .i32⟩
  | 68 => ⟨S1x2048, .i1⟩
  | 69 => ⟨S_, .i32⟩
  | 70 => ⟨S_, .i1⟩
  | 71 => ⟨S1x2048, .i1⟩
  | 72 => ⟨S1x2048, .i1⟩
  | 73 => ⟨S1x2048, .i1⟩
  | 74 => ⟨S1x2048, .i32⟩
  | 75 => ⟨S1x2048, .i32⟩
  | 76 => ⟨S1x2048, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S128x1, .i32⟩
  | 84 => ⟨S128x1, .i32⟩
  | 85 => ⟨S_, .i32⟩
  | 86 => ⟨S128x1, .i32⟩
  | 87 => ⟨S128x1, .i1⟩
  | 88 => ⟨S_, .i32⟩
  | 89 => ⟨S128x1, .i32⟩
  | 90 => ⟨S128x1, .i1⟩
  | 91 => ⟨S_, .i32⟩
  | 92 => ⟨S_, .i1⟩
  | 93 => ⟨S128x1, .i1⟩
  | 94 => ⟨S128x1, .i1⟩
  | 95 => ⟨S128x1, .i1⟩
  | 96 => ⟨S128x1, .i32⟩
  | 97 => ⟨S128x1, .i32⟩
  | 98 => ⟨S128x1, .i32⟩
  | 99 => ⟨S128x2048, .i32⟩
  | 100 => ⟨S128x2048, .i32⟩
  | 101 => ⟨S128x2048, .i1⟩
  | 102 => ⟨S128x2048, .i1⟩
  | 103 => ⟨S2x4x128x2048, .f32⟩
  | 104 => ⟨S_, .f32⟩
  | 105 => ⟨S2x4x128x2048, .f32⟩
  | 106 => ⟨S2x4x128x2048, .f32⟩
  | 107 => ⟨S1x1x128x2048, .i1⟩
  | 108 => ⟨S_, .f32⟩
  | 109 => ⟨S_, .f32⟩
  | 110 => ⟨S2x4x128x2048, .i1⟩
  | 111 => ⟨S2x4x128x2048, .f32⟩
  | 112 => ⟨S2x4x128x2048, .f32⟩
  | 113 => ⟨S_, .f32⟩
  | 114 => ⟨S2x4x128, .f32⟩
  | 115 => ⟨S2x4x128x1, .f32⟩
  | 116 => ⟨S2x4x128x2048, .f32⟩
  | 117 => ⟨S2x4x128x2048, .f32⟩
  | 118 => ⟨S2x4x128x2048, .f32⟩
  | 119 => ⟨S_, .i1⟩
  | 120 => ⟨S128, .i1⟩
  | 121 => ⟨S1x1x128x1, .i1⟩
  | 122 => ⟨S_, .f32⟩
  | 123 => ⟨S2x4x128, .f32⟩
  | 124 => ⟨S2x4x128x1, .f32⟩
  | 125 => ⟨S_, .f32⟩
  | 126 => ⟨S_, .f32⟩
  | 127 => ⟨S2x4x128x1, .i1⟩
  | _ => ⟨S2x128x512, .bf16⟩

abbrev hbmTy0_1 (i : Nat) : BufTy := match i % 128 with
  | 0 => ⟨S2x4x128x1, .f32⟩
  | 1 => ⟨S2x4x128x1, .f32⟩
  | 2 => ⟨S2x4x128x2048, .f32⟩
  | 3 => ⟨S2x4x128x2048, .f32⟩
  | 4 => ⟨S1x1x128x1, .i1⟩
  | 5 => ⟨S_, .f32⟩
  | 6 => ⟨S_, .f32⟩
  | 7 => ⟨S2x4x128x2048, .i1⟩
  | 8 => ⟨S2x4x128x2048, .f32⟩
  | 9 => ⟨S2x4x128x2048, .f32⟩
  | 10 => ⟨S2x4x64x128, .f32⟩
  | 11 => ⟨S2x128x4x64, .f32⟩
  | 12 => ⟨S2x128x256, .f32⟩
  | 13 => ⟨S2x128x512, .f32⟩
  | _ => ⟨S2x128x512, .bf16⟩

abbrev hbmTy (i : Nat) : BufTy := match i / 128 with
  | 0 => hbmTy0_0 i
  | 1 => hbmTy0_1 i
  | _ => ⟨S2x128x512, .bf16⟩

abbrev bufTy : (tb : Table) → Fin (tcTables nBuf tb) → BufTy
  | .hbm, ⟨i, _⟩ => hbmTy i
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v16 : Ref sig .tc := ⟨.hbm, 76, rfl⟩
abbrev main_c_2 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_cst_3 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v26 : Ref sig .tc := ⟨.hbm, 112, rfl⟩
abbrev main_cst_4 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_c_5 : Ref sig .tc := ⟨.hbm, 119, rfl⟩
abbrev main_v32 : Ref sig .tc := ⟨.hbm, 120, rfl⟩
abbrev main_v33 : Ref sig .tc := ⟨.hbm, 121, rfl⟩
abbrev main_cst_6 : Ref sig .tc := ⟨.hbm, 122, rfl⟩
abbrev main_v34 : Ref sig .tc := ⟨.hbm, 123, rfl⟩
abbrev main_v35 : Ref sig .tc := ⟨.hbm, 124, rfl⟩
abbrev main_cst_7 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst_8 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.Cells.lean ====
/-
# Devices, semaphores and landing slots of the exchange

Sixteen devices stand in a row. In round 0 device `c` exchanges its partial attention with `c ^ 1`, `c ^ 2`, `c ^ 3`,
in round 1 with `c ^ 4`, `c ^ 8`, `c ^ 12`. The six exchanges are numbered by their landing slot `j`. Here are the
partner `peer j c`, the four semaphores of each slot, the runtime's barrier semaphore, and the slots of the two landing
buffers.
-/
module

public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Partners -/

/-- The exclusive-or distance of slot `j`'s partner. -/
def off (j : Fin 6) : ℕ := ![1, 2, 3, 4, 8, 12] j

set_option backward.proofsInPublic true in
/-- Slot `j`'s partner of device `c`. -/
def peer (j : Fin 6) (c : Dev nD) : Dev nD := ⟨(c.val ^^^ off j) % 16, Nat.mod_lt _ (by decide)⟩

theorem peer_peer (j : Fin 6) (c : Dev nD) : peer j (peer j c) = c := by revert j c; decide

/-- Partnership as a permutation of the devices. -/
def peerEquiv (j : Fin 6) : Dev nD ≃ Dev nD := ⟨peer j, peer j, peer_peer j, peer_peer j⟩

theorem peer_inj {j : Fin 6} {a b : Dev nD} (h : peer j a = peer j b) : a = b := by
  rw [← peer_peer j a, h, peer_peer]

/-! The device each signal and each transfer names. -/
theorem dev1_eq (c : Dev nD) : (⟨k0_dev1 c, k0_dev1_lt c⟩ : Dev nD) = peer 0 c := by revert c; decide
theorem dev2_eq (c : Dev nD) : (⟨k0_dev2 c, k0_dev2_lt c⟩ : Dev nD) = peer 1 c := by revert c; decide
theorem dev3_eq (c : Dev nD) : (⟨k0_dev3 c, k0_dev3_lt c⟩ : Dev nD) = peer 2 c := by revert c; decide
theorem dev4_eq (c : Dev nD) : (⟨k0_dev4 c, k0_dev4_lt c⟩ : Dev nD) = peer 3 c := by revert c; decide
theorem dev5_eq (c : Dev nD) : (⟨k0_dev5 c, k0_dev5_lt c⟩ : Dev nD) = peer 4 c := by revert c; decide
theorem dev6_eq (c : Dev nD) : (⟨k0_dev6 c, k0_dev6_lt c⟩ : Dev nD) = peer 5 c := by revert c; decide
theorem dev7_eq (c : Dev nD) : (⟨k0_dev7 c, k0_dev7_lt c⟩ : Dev nD) = peer 0 c := by revert c; decide
theorem dev8_eq (c : Dev nD) : (⟨k0_dev8 c, k0_dev8_lt c⟩ : Dev nD) = peer 0 c := by revert c; decide
theorem dev9_eq (c : Dev nD) : (⟨k0_dev9 c, k0_dev9_lt c⟩ : Dev nD) = peer 1 c := by revert c; decide
theorem dev10_eq (c : Dev nD) : (⟨k0_dev10 c, k0_dev10_lt c⟩ : Dev nD) = peer 1 c := by revert c; decide
theorem dev11_eq (c : Dev nD) : (⟨k0_dev11 c, k0_dev11_lt c⟩ : Dev nD) = peer 2 c := by revert c; decide
theorem dev12_eq (c : Dev nD) : (⟨k0_dev12 c, k0_dev12_lt c⟩ : Dev nD) = peer 2 c := by revert c; decide
theorem dev13_eq (c : Dev nD) : (⟨k0_dev13 c, k0_dev13_lt c⟩ : Dev nD) = peer 3 c := by revert c; decide
theorem dev14_eq (c : Dev nD) : (⟨k0_dev14 c, k0_dev14_lt c⟩ : Dev nD) = peer 3 c := by revert c; decide
theorem dev15_eq (c : Dev nD) : (⟨k0_dev15 c, k0_dev15_lt c⟩ : Dev nD) = peer 4 c := by revert c; decide
theorem dev16_eq (c : Dev nD) : (⟨k0_dev16 c, k0_dev16_lt c⟩ : Dev nD) = peer 4 c := by revert c; decide
theorem dev17_eq (c : Dev nD) : (⟨k0_dev17 c, k0_dev17_lt c⟩ : Dev nD) = peer 5 c := by revert c; decide
theorem dev18_eq (c : Dev nD) : (⟨k0_dev18 c, k0_dev18_lt c⟩ : Dev nD) = peer 5 c := by revert c; decide

/-! ## Semaphores -/

/-- The runtime's barrier semaphore. -/
abbrev barS : Sem sig := (SemArray.scalar (sig.barrier 0 rfl) : Sems sig S_).sem

set_option backward.proofsInPublic true in
/-- The transfer semaphores: kind `t` (0: departure of the weighted values, 1: their arrival, 2: departure of the maxima
    and sums, 3: their arrival) of slot `j`. -/
def dsem (t : Fin 4) (j : Fin 6) : DmaSem sig := ⟨6 + 6 * t.val + j.val, by
  have := t.isLt; have := j.isLt; show 6 + 6 * t.val + j.val < 30; omega⟩

/-- The inverse of `dsem`. -/
def dkind (q : DmaSem sig) : Option (Fin 4 × Fin 6) :=
  if h : 6 ≤ q.val then some (⟨(q.val - 6) / 6, by have : q.val < 30 := q.isLt; omega⟩, ⟨(q.val - 6) % 6, Nat.mod_lt _ (by decide)⟩) else none

theorem dkind_dsem (t : Fin 4) (j : Fin 6) : dkind (dsem t j) = some (t, j) := by revert t j; decide

theorem dsem_inj {t t' : Fin 4} {j j' : Fin 6} (h : dsem t j = dsem t' j') : t = t' ∧ j = j' := by
  have := congrArg dkind h
  rw [dkind_dsem, dkind_dsem] at this
  exact ⟨congrArg Prod.fst (Option.some.inj this), congrArg Prod.snd (Option.some.inj this)⟩

abbrev barCell (c : Dev nD) : GSem nD τ sig := ((c : Thread nD τ), .reg barS)
abbrev dCell (t : Fin 4) (j : Fin 6) (c : Dev nD) : GSem nD τ sig := ((c : Thread nD τ), .dma (dsem t j))

/-! ## The buffers -/

abbrev oaM : Memref sig .tc .vmem S256x256 .f32 := Memref.whole cc0_scratch0
abbrev osM : Memref sig .tc .vmem S256x256 .bf16 := Memref.whole cc0_scratch1
abbrev maM : Memref sig .tc .vmem S256x8 .f32 := Memref.whole cc0_scratch2
abbrev msM : Memref sig .tc .vmem S256x8 .f32 := Memref.whole cc0_scratch3
abbrev orM : Memref sig .tc .vmem S6x256x256 .bf16 := Memref.whole cc0_scratch4
abbrev mrM : Memref sig .tc .vmem S6x256x8 .f32 := Memref.whole cc0_scratch5

theorem oRect_inb (j : Fin 6) : ∀ a, (![j.val, 0, 0] : Fin 3 → ℕ) a + S1x256x256.size a ≤ S6x256x256.size a := by
  revert j; decide
theorem mRect_inb (j : Fin 6) : ∀ a, (![j.val, 0, 0] : Fin 3 → ℕ) a + S1x256x8.size a ≤ S6x256x8.size a := by
  revert j; decide

end Cert.Exchange

end
-- ==== Proof.Slots.lean ====
/-
# The six landing slots

A landing buffer holds six slots, one per exchange. Here are the slots as the kernel's transfers name them, as element sets
of the landing buffer (disjoint, together the whole buffer), what a landed transfer leaves in a slot, and the three read
shares under which one buffer is the source of three transfers at once.
-/
module

public import proofs.«01_k».proof.Proof.Cells
public import Idealize.ShloMosaic.Lib.ValueLayout

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3 eq_ix2 eq_ix3)

variable {F : FTy → Type}

/-- Slot `j` of the two landing buffers as rectangles. -/
def oR (j : Fin 6) : Rect S6x256x256 := Rect.unit (s := S6x256x256) ![j.val, 0, 0] S1x256x256.size (oRect_inb j)
def mR (j : Fin 6) : Rect S6x256x8 := Rect.unit (s := S6x256x8) ![j.val, 0, 0] S1x256x8.size (mRect_inb j)

/-- Slot `j` of the landing buffers as a transfer names it. -/
abbrev oSlot (j : Fin 6) : Memref sig .tc .vmem S256x256 .bf16 :=
  (orM.slice (Rect.unit (s := S6x256x256) ![j.val, 0, 0] S1x256x256.size (oRect_inb j)) (fun _ => rfl)).squeeze S256x256 squeezes_S1x256x256_S256x256
abbrev mSlot (j : Fin 6) : Memref sig .tc .vmem S256x8 .f32 :=
  (mrM.slice (Rect.unit (s := S6x256x8) ![j.val, 0, 0] S1x256x8.size (mRect_inb j)) (fun _ => rfl)).squeeze S256x8 squeezes_S1x256x8_S256x8

/-- The elements of slot `j`. -/
abbrev oSet (j : Fin 6) := (orM : Memref sig .tc .vmem S6x256x256 .bf16).view.setOn (oR j).set
abbrev mSet (j : Fin 6) := (mrM : Memref sig .tc .vmem S6x256x8 .f32).view.setOn (mR j).set

theorem oSlot_set (j : Fin 6) : (oSlot j).view.set = oSet j := by
  rw [Memref.set_view_squeeze]; exact View.set_slice _ _
theorem mSlot_set (j : Fin 6) : (mSlot j).view.set = mSet j := by
  rw [Memref.set_view_squeeze]; exact View.set_slice _ _

/-- Row `x`, column `y` of a sent block, and of a landing buffer's slot. -/
abbrev oAt (x : Fin 256) (y : Fin 256) : S256x256.Idx := ix2 x y
abbrev mAt (x : Fin 256) (y : Fin 8) : S256x8.Idx := ix2 x y
abbrev oIn (j : Fin 6) (x : Fin 256) (y : Fin 256) : S6x256x256.Idx := ix3 j x y
abbrev mIn (j : Fin 6) (x : Fin 256) (y : Fin 8) : S6x256x8.Idx := ix3 j x y

theorem oEmb (j : Fin 6) (x : S256x256.Idx) : (oSlot j).view.emb x = oIn j (x 0) (x 1) := by
  have h : Shape.reshapeEquiv (s := S1x256x256) (s' := S256x256) squeezes_S1x256x256_S256x256.numel_eq x = ix3 (⟨0, Nat.one_pos⟩ : Fin 1) (x 0) (x 1) :=
    (congrArg _ (eq_ix2 x)).trans (ValueIdx.reshapeEquiv_ix2_1ab _ (x 0) (x 1))
  show (oR j).emb (Shape.reshapeEquiv (s := S1x256x256) (s' := S256x256) squeezes_S1x256x256_S256x256.numel_eq x) = _
  rw [h]
  funext a
  refine Fin.ext ?_
  match a with
  | ⟨0, _⟩ => exact Nat.add_zero j.val
  | ⟨1, _⟩ => show 0 + 1 * (x 0).val = (x 0).val; omega
  | ⟨2, _⟩ => show 0 + 1 * (x 1).val = (x 1).val; omega
theorem mEmb (j : Fin 6) (x : S256x8.Idx) : (mSlot j).view.emb x = mIn j (x 0) (x 1) := by
  have h : Shape.reshapeEquiv (s := S1x256x8) (s' := S256x8) squeezes_S1x256x8_S256x8.numel_eq x = ix3 (⟨0, Nat.one_pos⟩ : Fin 1) (x 0) (x 1) :=
    (congrArg _ (eq_ix2 x)).trans (ValueIdx.reshapeEquiv_ix2_1ab _ (x 0) (x 1))
  show (mR j).emb (Shape.reshapeEquiv (s := S1x256x8) (s' := S256x8) squeezes_S1x256x8_S256x8.numel_eq x) = _
  rw [h]
  funext a
  refine Fin.ext ?_
  match a with
  | ⟨0, _⟩ => exact Nat.add_zero j.val
  | ⟨1, _⟩ => show 0 + 1 * (x 0).val = (x 0).val; omega
  | ⟨2, _⟩ => show 0 + 1 * (x 1).val = (x 1).val; omega

theorem mem_oSet {j : Fin 6} {i : S6x256x256.Idx} (h : i ∈ oSet j) : ∃ x : S256x256.Idx, i = (oSlot j).view.emb x := by
  rw [← oSlot_set] at h
  obtain ⟨x, -, h⟩ := Finset.mem_map.mp h
  exact ⟨x, h.symm⟩
theorem mem_mSet {j : Fin 6} {i : S6x256x8.Idx} (h : i ∈ mSet j) : ∃ x : S256x8.Idx, i = (mSlot j).view.emb x := by
  rw [← mSlot_set] at h
  obtain ⟨x, -, h⟩ := Finset.mem_map.mp h
  exact ⟨x, h.symm⟩
theorem oSet_zero {j : Fin 6} {i : S6x256x256.Idx} (h : i ∈ oSet j) : i 0 = j := by
  obtain ⟨x, rfl⟩ := mem_oSet h
  exact congrFun (oEmb j x) 0
theorem mSet_zero {j : Fin 6} {i : S6x256x8.Idx} (h : i ∈ mSet j) : i 0 = j := by
  obtain ⟨x, rfl⟩ := mem_mSet h
  exact congrFun (mEmb j x) 0

theorem oSet_disj (t : Fin 6) (_ : t ∈ (Finset.univ : Finset (Fin 6))) (t' : Fin 6) (_ : t' ∈ (Finset.univ : Finset (Fin 6))) (h : t ≠ t') :
    Disjoint (oSet t) (oSet t') :=
  Finset.disjoint_left.mpr fun _ h1 h2 => h ((oSet_zero h1).symm.trans (oSet_zero h2))
theorem mSet_disj (t : Fin 6) (_ : t ∈ (Finset.univ : Finset (Fin 6))) (t' : Fin 6) (_ : t' ∈ (Finset.univ : Finset (Fin 6))) (h : t ≠ t') :
    Disjoint (mSet t) (mSet t') :=
  Finset.disjoint_left.mpr fun _ h1 h2 => h ((mSet_zero h1).symm.trans (mSet_zero h2))

theorem oSet_cover : (Finset.univ : Finset (Fin 6)).biUnion oSet = Finset.univ :=
  Finset.eq_univ_iff_forall.mpr fun (i : S6x256x256.Idx) => Finset.mem_biUnion.mpr ⟨(i 0 : Fin 6), Finset.mem_univ _,
    (oSlot_set (i 0 : Fin 6)) ▸ Finset.mem_map.mpr ⟨oAt (i 1) (i 2), Finset.mem_univ _, (oEmb (i 0 : Fin 6) (oAt (i 1) (i 2))).trans (eq_ix3 i).symm⟩⟩
theorem mSet_cover : (Finset.univ : Finset (Fin 6)).biUnion mSet = Finset.univ :=
  Finset.eq_univ_iff_forall.mpr fun (i : S6x256x8.Idx) => Finset.mem_biUnion.mpr ⟨(i 0 : Fin 6), Finset.mem_univ _,
    (mSlot_set (i 0 : Fin 6)) ▸ Finset.mem_map.mpr ⟨mAt (i 1) (i 2), Finset.mem_univ _, (mEmb (i 0 : Fin 6) (mAt (i 1) (i 2))).trans (eq_ix3 i).symm⟩⟩

/-! ## Landed contents -/

/-- The landing buffer with `f` in every slot. -/
def landO (f : (cc0_scratch1 : Ref sig .tc).ty.Contents (Elt F)) : (cc0_scratch4 : Ref sig .tc).ty.Contents (Elt F) :=
  fun i => f (oAt ((i : S6x256x256.Idx) 1) ((i : S6x256x256.Idx) 2))
def landM (f : (cc0_scratch3 : Ref sig .tc).ty.Contents (Elt F)) : (cc0_scratch5 : Ref sig .tc).ty.Contents (Elt F) :=
  fun i => f (mAt ((i : S6x256x8.Idx) 1) ((i : S6x256x8.Idx) 2))

/-- A transfer landed in slot `j` leaves there what it carried. -/
theorem landO_eq (j : Fin 6) (fd : (cc0_scratch4 : Ref sig .tc).ty.Contents (Elt F)) (fs : (cc0_scratch1 : Ref sig .tc).ty.Contents (Elt F))
    (i : S6x256x256.Idx) (hi : i ∈ oSet j) :
    (oSlot j).view.write (Elt F) fd ((osM : Memref sig .tc .vmem S256x256 .bf16).view.read (Elt F) fs) Finset.univ i = landO fs i := by
  obtain ⟨x, rfl⟩ := mem_oSet hi
  refine (View.write_emb_of_mem _ _ (Finset.mem_univ _)).trans ?_
  rw [View.read_whole]
  refine Eq.trans ?_ (congrArg (landO fs) (oEmb j x).symm)
  exact congrArg fs (eq_ix2 x)
theorem landM_eq (j : Fin 6) (fd : (cc0_scratch5 : Ref sig .tc).ty.Contents (Elt F)) (fs : (cc0_scratch3 : Ref sig .tc).ty.Contents (Elt F))
    (i : S6x256x8.Idx) (hi : i ∈ mSet j) :
    (mSlot j).view.write (Elt F) fd ((msM : Memref sig .tc .vmem S256x8 .f32).view.read (Elt F) fs) Finset.univ i = landM fs i := by
  obtain ⟨x, rfl⟩ := mem_mSet hi
  refine (View.write_emb_of_mem _ _ (Finset.mem_univ _)).trans ?_
  rw [View.read_whole]
  refine Eq.trans ?_ (congrArg (landM fs) (mEmb j x).symm)
  exact congrArg fs (eq_ix2 x)

/-! ## Read shares -/

/-- The share of its source that exchange `j` borrows: three parts of a whole, one per exchange of a round. -/
def shr (j : Fin 6) : PosShare TreeShare := ![fullShare.right, fullShare.left.right, fullShare.left.left, fullShare.right, fullShare.left.right, fullShare.left.left] j

/-- The bytes a transfer of weighted values, and one of maxima and sums, credits. -/
def No : ℕ := (osM : Memref sig .tc .vmem S256x256 .bf16).view.dmaCredit
def Nm : ℕ := (msM : Memref sig .tc .vmem S256x8 .f32).view.dmaCredit
theorem No_pos : 0 < No := View.dmaCredit_pos _ (by decide)
theorem Nm_pos : 0 < Nm := View.dmaCredit_pos _ (by decide)
theorem oSlot_credit (j : Fin 6) : (oSlot j).view.dmaCredit = No := rfl
theorem mSlot_credit (j : Fin 6) : (mSlot j).view.dmaCredit = Nm := rfl

end Cert.Exchange

end
-- ==== Proof.Sched.lean ====
/-
# The exchange's schedule

The protocol the sixteen devices follow, stated for ARBITRARY sent contents `V`: at the barrier each device hands every
partner the landing slot that partner will write; each transfer hands its source share back at its departure semaphore and
the filled slot over at its arrival semaphore. Every cell has one round. From the schedule follow one step lemma per kind
of statement: a barrier signal, the barrier wait, a transfer of each of the two buffers, a transfer wait.
-/
module

public import proofs.«01_k».proof.Proof.Slots
public import Idealize.ShloMosaic.Lib.Rounds

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline library's copy and the exchange's, its duties numbered by the slot -/

abbrev UX : Type := URounds (GSem nD τ sig) (Fin 6)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

abbrev 𝒱₀ : Variants := Variants.none

/-- What every device sends in every exchange: its weighted values, and its maxima and sums. -/
structure Sent (F : FTy → Type) where
  o : Fin 6 → Dev nD → (cc0_scratch1 : Ref sig .tc).ty.Contents (Elt F)
  ms : Fin 6 → Dev nD → (cc0_scratch3 : Ref sig .tc).ty.Contents (Elt F)

/-! ## Resources -/

/-- Slot `j` of device `c`'s landing buffers. -/
def oPts (j : Fin 6) (c : Dev nD) (f : (cc0_scratch4 : Ref sig .tc).ty.Contents (Elt F)) : sProp 𝕄 :=
  (orM : Memref sig .tc .vmem S6x256x256 .bf16).view.loc (c : Thread nD τ) ↦[oSet j]{fullShare} f
def mPts (j : Fin 6) (c : Dev nD) (f : (cc0_scratch5 : Ref sig .tc).ty.Contents (Elt F)) : sProp 𝕄 :=
  (mrM : Memref sig .tc .vmem S6x256x8 .f32).view.loc (c : Thread nD τ) ↦[mSet j]{fullShare} f

/-- A share of device `c`'s two sources. -/
def oSrc (q : PosShare TreeShare) (c : Dev nD) (f : (cc0_scratch1 : Ref sig .tc).ty.Contents (Elt F)) : sProp 𝕄 :=
  ((c : Thread nD τ).loc cc0_scratch1) ↦{q} f
def mSrc (q : PosShare TreeShare) (c : Dev nD) (f : (cc0_scratch3 : Ref sig .tc).ty.Contents (Elt F)) : sProp 𝕄 :=
  ((c : Thread nD τ).loc cc0_scratch3) ↦{q} f

omit [FloatOps F] [Named F] in
instance oPts_storable (j c f) : BI.Storable (upEmb : UEmb _ 𝕄) (oPts (F := F) j c f) := by unfold oPts; infer_instance
omit [FloatOps F] [Named F] in
instance mPts_storable (j c f) : BI.Storable (upEmb : UEmb _ 𝕄) (mPts (F := F) j c f) := by unfold mPts; infer_instance
omit [FloatOps F] [Named F] in
instance oSrc_storable (q c f) : BI.Storable (upEmb : UEmb _ 𝕄) (oSrc (F := F) q c f) := by unfold oSrc; infer_instance
omit [FloatOps F] [Named F] in
instance mSrc_storable (q c f) : BI.Storable (upEmb : UEmb _ 𝕄) (mSrc (F := F) q c f) := by unfold mSrc; infer_instance

/-- What slot `j`'s partner hands device `c` at the barrier: its own landing slots `j`. -/
def barPay (j : Fin 6) (c : Dev nD) : sProp 𝕄 := iprop((∃ f, oPts (F := F) j (peer j c) f) ∗ (∃ f, mPts (F := F) j (peer j c) f))

/-- What completes on slot `j`'s four semaphores of device `c`. -/
def xferPay (V : Sent F) (t : Fin 4) (j : Fin 6) (c : Dev nD) : sProp 𝕄 := match t with
  | 0 => oSrc (shr j) c (V.o j c)
  | 1 => oPts j c (landO (V.o j (peer j c)))
  | 2 => mSrc (shr j) c (V.ms j c)
  | 3 => mPts j c (landM (V.ms j (peer j c)))

omit [FloatOps F] [Named F] in
instance barPay_storable (j c) : BI.Storable (upEmb : UEmb _ 𝕄) (barPay (F := F) j c) := by unfold barPay; infer_instance
omit [FloatOps F] [Named F] in
instance xferPay_storable (V : Sent F) (t j c) : BI.Storable (upEmb : UEmb _ 𝕄) (xferPay V t j c) := by
  unfold xferPay; split <;> infer_instance

/-- The credit of a semaphore of kind `t`. -/
def credit (t : Fin 4) : ℕ := if t.val < 2 then No else Nm
theorem credit_pos (t : Fin 4) : 0 < credit t := by unfold credit; split; exacts [No_pos, Nm_pos]

/-! ## The schedule -/

/-- The duties of a semaphore at round 0: six at the barrier, one at each transfer semaphore. -/
def dutiesOf (s : SemLoc sig) : Finset (Fin 6) := match s with
  | .reg _ => Finset.univ
  | .dma q => match dkind q with
    | some _ => {0}
    | none => ∅

def amountOf (s : SemLoc sig) : ℕ := match s with
  | .reg _ => 1
  | .dma q => match dkind q with
    | some (t, _) => credit t
    | none => 1

def payloadOf (V : Sent F) (s : SemLoc sig) (c : Dev nD) (d : Fin 6) : sProp 𝕄 := match s with
  | .reg _ => barPay d c
  | .dma q => match dkind q with
    | some (t, j) => xferPay V t j c
    | none => iprop(emp)

def Rd (V : Sent F) : Rounds.Schedule (GSem nD τ sig) (Fin 6) 𝕄 where
  duties g r := if r = 0 ∧ g.1.2 = .tc then dutiesOf g.2 else ∅
  unitless _ := False
  amount g _ _ := amountOf g.2
  payload g _ d := payloadOf V g.2 g.1.1 d
  amount_pos g _ _ _ := by
    show 0 < amountOf g.2
    unfold amountOf
    split
    · exact Nat.one_pos
    · split
      · exact credit_pos _
      · exact Nat.one_pos

instance Rd_storable (V : Sent F) (g : GSem nD τ sig) (r : ℕ) (d : Fin 6) : BI.Storable (upEmb : UEmb _ 𝕄) ((Rd V).payload g r d) := by
  show BI.Storable upEmb (payloadOf V g.2 g.1.1 d)
  unfold payloadOf
  (repeat' split) <;> infer_instance

section Tables
variable (V : Sent F) (c : Dev nD) (t : Fin 4) (j : Fin 6)

omit [FloatOps F] [Named F] in
theorem duties_bar : (Rd V).duties (barCell c) 0 = Finset.univ := by dsimp only [Rd]; rw [if_pos ⟨rfl, rfl⟩]; rfl
omit [FloatOps F] [Named F] in
theorem duties_dma : (Rd V).duties (dCell t j c) 0 = {0} := by
  dsimp only [Rd]; rw [if_pos ⟨rfl, rfl⟩]; simp only [dutiesOf, dkind_dsem]
omit [FloatOps F] [Named F] in
theorem duties_later (g : GSem nD τ sig) : ∀ r, 1 ≤ r → (Rd V).duties g r = ∅ :=
  fun r hr => by dsimp only [Rd]; rw [if_neg fun h => by omega]
omit [FloatOps F] [Named F] in
theorem amount_bar (d : Fin 6) : (Rd V).amount (barCell c) 0 d = 1 := rfl
omit [FloatOps F] [Named F] in
theorem amount_dma (d : Fin 6) : (Rd V).amount (dCell t j c) 0 d = credit t := by
  dsimp only [Rd]; simp only [amountOf, dkind_dsem]
omit [FloatOps F] [Named F] in
theorem expect_bar : (Rd V).expect (barCell c) 0 = 6 := by
  unfold Schedule.expect Schedule.amountOf
  rw [duties_bar, Finset.sum_congr rfl fun d _ => amount_bar V c d]; rfl
omit [FloatOps F] [Named F] in
theorem expect_dma : (Rd V).expect (dCell t j c) 0 = credit t := by
  unfold Schedule.expect Schedule.amountOf; rw [duties_dma, Finset.sum_singleton, amount_dma]
omit [FloatOps F] [Named F] in
theorem payload_bar (d : Fin 6) : (Rd V).payload (barCell c) 0 d = barPay d c := rfl
omit [FloatOps F] [Named F] in
theorem payload_dma (d : Fin 6) : (Rd V).payload (dCell t j c) 0 d = xferPay V t j c := by
  dsimp only [Rd]; simp only [payloadOf, dkind_dsem]

omit [FloatOps F] [Named F] in
theorem rest_bar : bigSep ((Rd V).duties (barCell c) 0 \ ∅) (fun d => (Rd V).payload (barCell c) 0 d) = bigSep Finset.univ fun d : Fin 6 => barPay (F := F) d c := by
  rw [Finset.sdiff_empty, duties_bar]; rfl
omit [FloatOps F] [Named F] in
theorem rest_dma : bigSep ((Rd V).duties (dCell t j c) 0 \ ∅) (fun d => (Rd V).payload (dCell t j c) 0 d) = xferPay V t j c := by
  rw [Finset.sdiff_empty, duties_dma, bigSep_singleton, payload_dma]

end Tables

/-! ## Cells, invariants -/

/-- A device's cells of the exchange: its barrier, and kind `t` of slot `j`. -/
abbrev Cell : Type := Option (Fin 4 × Fin 6)
def csem (k : Cell) : SemLoc sig := match k with
  | none => .reg barS
  | some (t, j) => .dma (dsem t j)
abbrev kcell (ck : Dev nD × Cell) : GSem nD τ sig := ((ck.1 : Thread nD τ), csem ck.2)

/-- Every cell's invariant, under the names `K`, and that every cell has reached round 0. -/
def records (V : Sent F) (K : Dev nD × Cell → ℕ) : sProp 𝕄 :=
  iprop((bigSep Finset.univ fun ck : Dev nD × Cell => cellInv ER (Rd V) (K ck) (kcell ck))
    ∗ bigSep Finset.univ fun ck : Dev nD × Cell => reached ER (kcell ck) 0)

instance records_persistent (V : Sent F) (K : Dev nD × Cell → ℕ) : BI.Persistent (records V K) := by unfold records; infer_instance

omit [FloatOps F] [Named F] in
theorem inv_at (V : Sent F) (K : Dev nD × Cell → ℕ) (ck : Dev nD × Cell) : records V K ⊢ cellInv ER (Rd V) (K ck) (kcell ck) := by
  have h : (bigSep Finset.univ fun ck : Dev nD × Cell => (cellInv ER (Rd V) (K ck) (kcell ck) : sProp 𝕄)) ⊢ cellInv ER (Rd V) (K ck) (kcell ck) :=
    bigSep_elim (Finset.mem_univ ck)
  unfold records
  iintro ⟨HI, -⟩
  iapply h; iexact HI
omit [FloatOps F] [Named F] in
theorem reached_at (V : Sent F) (K : Dev nD × Cell → ℕ) (ck : Dev nD × Cell) : records V K ⊢ reached ER (kcell ck) 0 := by
  have h : (bigSep Finset.univ fun ck : Dev nD × Cell => (reached ER (kcell ck) 0 : sProp 𝕄)) ⊢ reached ER (kcell ck) 0 :=
    bigSep_elim (Finset.mem_univ ck)
  unfold records
  iintro ⟨-, HR⟩
  iapply h; iexact HR

/-! ## The steps -/

section Steps
variable (V : Sent F) (K : Dev nD × Cell → ℕ) (c : Dev nD) (j : Fin 6)

/-- Device `c` signals slot `j`'s partner's barrier, handing over its own landing slots `j`. -/
theorem signal_step {α : Type} {Ψ : α → sProp 𝕄} {k : PUnit → Prog (TpuEff nD τ sig (Elt F) Λ₀ .tc) α}
    (d' : Dev nD) (hd : d' = peer j c) (n : ℤ) (hn : n = ((1 : ℕ) : ℤ)) (O : CellTallies nD τ sig Unit) (W : Waits sig Unit) :
    iprop(records V K ∗ owes (c : Thread nD τ) (O + tallyAt (barCell (peer j c)) () 1) W ∗ dutyTok ER (barCell (peer j c)) 0 j
        ∗ (∃ f, oPts j c f) ∗ (∃ f, mPts j c f))
      ⊢ iprop((owes (c : Thread nD τ) O W -∗ wp frame (wpE (defs₀ (F := F)) 𝒱₀ (c : Thread nD τ) none) Set.univ (k ⟨⟩) Ψ)
          -∗ wp frame (wpE (defs₀ (F := F)) 𝒱₀ (c : Thread nD τ) none) Set.univ (.op (.semSignal (d' : Thread nD τ) barS n) k) Ψ) := by
  subst hd; subst hn
  iintro ⟨#HK, HO, Ht, Ho, Hm⟩ Hk
  iapply (Rounds.wp_signal 𝒱₀ ER (Rd V) (c : Thread nD τ) none (dst := (peer j c : Thread nD τ)) (κ := K (peer j c, none))
      (d := j) (by rw [duties_bar]; exact Finset.mem_univ _) (amount_bar V (peer j c) j) () O rfl) $$ [HO Ht Ho Hm]
  · isplitr; · iapply (inv_at V K (peer j c, none)); iexact HK
    isplitl [HO]; · iexact HO
    isplitl [Ht]; · iexact Ht
    isplitl [Ho Hm]
    · rw [payload_bar]; unfold barPay; rw [peer_peer]
      isplitl [Ho] <;> iassumption
    · iapply (reached_at V K (peer j c, none)); iexact HK
  iexact Hk

/-- The wait for the six partners' signals: their landing slots come with it. -/
theorem barrier_step {α : Type} {Ψ : α → sProp 𝕄} {k : PUnit → Prog (TpuEff nD τ sig (Elt F) Λ₀ .tc) α}
    (n : ℤ) (hn : n = ((6 : ℕ) : ℤ)) (O : CellTallies nD τ sig Unit) (W : Waits sig Unit) :
    iprop(records V K ∗ cred (tallyAt (barCell c) () 6) ∗ owes (c : Thread nD τ) O W ∗ MayWait (c : Thread nD τ) (.reg barS) () O
        ∗ atPos ER (barCell c) 0 ∅ 0)
      ⊢ iprop(((owes (c : Thread nD τ) O (insert (SemLoc.reg barS, ()) W) ∗ atPos ER (barCell c) 1 ∅ 0 ∗ bigSep Finset.univ fun d : Fin 6 => barPay (F := F) d c)
            -∗ wp frame (wpE (defs₀ (F := F)) 𝒱₀ (c : Thread nD τ) none) Set.univ (k ⟨⟩) Ψ)
          -∗ wp frame (wpE (defs₀ (F := F)) 𝒱₀ (c : Thread nD τ) none) Set.univ (.op (.semWait barS n) k) Ψ) := by
  subst hn
  iintro ⟨#HK, Hc, HO, HM, Ha⟩ Hk
  iapply (Rounds.wp_wait_rest_token 𝒱₀ ER (Rd V) (c : Thread nD τ) none (κ := K (c, none))
      (wpE_semWait_eq 𝒱₀ (c : Thread nD τ) none Set.univ) (Set.mem_univ _) () (O := O) (W := W) (R := 0) (m := 0) (T := ∅)
      (by rw [expect_bar])) $$ [Hc HO HM Ha]
  · isplitr; · iapply (inv_at V K (c, none)); iexact HK
    isplitl [Hc]; · iexact Hc
    isplitl [HO]; · iexact HO
    isplitl [HM]; · iexact HM
    iexact Ha
  iintro ⟨HO, Ha, -, Hp⟩
  ihave Hp' := (Entails.of_eq (rest_bar V c)) $$ Hp
  iapply Hk
  isplitl [HO]; · iexact HO
  isplitl [Ha]; · iexact Ha
  iexact Hp'

/-- Device `c` starts exchange `j`'s transfer of its weighted values. -/
theorem sendO_step {α : Type} {Ψ : α → sProp 𝕄} {k : PUnit → Prog (TpuEff nD τ sig (Elt F) Λ₀ .tc) α}
    (d' : Dev nD) (hd : d' = peer j c) (src : Memref sig .tc .vmem S256x256 .bf16) (hsrc' : src = osM)
    (dst : Memref sig .tc .vmem S256x256 .bf16) (hdst' : dst = oSlot j) (sS sD : DmaSem sig) (hS : sS = dsem 0 j) (hD : sD = dsem 1 j)
    {hsc : dst.view.ref.isScScratch = false} {hsrc : src.view.WordExact} {hdst : dst.view.WordExact}
    {hsem : DmaTarget.Typed .vmem (.dma sD) (.remote (Dev.tc d' : Thread nD τ) dst (.dma sS) hsc)}
    (O : CellTallies nD τ sig Unit) (W : Waits sig Unit) :
    iprop(records V K ∗ oSrc (shr j) c (V.o j c) ∗ (∃ f, oPts j (peer j c) f) ∗ owes (c : Thread nD τ) (O + tallyAt (dCell 1 j (peer j c)) () No) W
        ∗ dutyTok ER (dCell 0 j c) 0 0 ∗ dutyTok ER (dCell 1 j (peer j c)) 0 0)
      ⊢ iprop(((cred (tallyAt (dCell 0 j c) () No) ∗ owes (c : Thread nD τ) O W) -∗ wp frame (wpE (defs₀ (F := F)) 𝒱₀ (c : Thread nD τ) none) Set.univ (k ⟨⟩) Ψ)
          -∗ wp frame (wpE (defs₀ (F := F)) 𝒱₀ (c : Thread nD τ) none) Set.univ
              (.op (.enqueueDma src (.remote (Dev.tc d' : Thread nD τ) dst (.dma sS) hsc) (.dma sD) hsrc hdst hsem) k) Ψ) := by
  subst hd; subst hsrc'; subst hdst'; subst hS; subst hD
  iintro ⟨#HK, Hs, ⟨%fd, Hd⟩, HO, Ht0, Ht1⟩ Hk
  iapply (Rounds.wp_send_pointsTo 𝒱₀ ER (Rd V) (c : Thread nD τ) none (c' := (peer j c : Thread nD τ)) (src := osM) (dst := oSlot j) (sS := .dma (dsem 0 j)) (sem := .dma (dsem 1 j)) (q := shr j) (fs := V.o j c) (κ₁ := K (c, some (0, j))) (κ₂ := K (peer j c, some (1, j)))
    (r₁ := 0) (r₂ := 0) (d₁ := 0) (d₂ := 0) (fd := fd)
    (by rw [duties_dma]; exact Finset.mem_singleton_self _) (by rw [duties_dma]; exact Finset.mem_singleton_self _)
    () () No (oSlot_credit j) (amount_dma V c 0 j 0) (amount_dma V (peer j c) 1 j 0) O rfl (W := W)
    (by rw [payload_dma]; unfold xferPay oSrc; rw [View.set_whole])
    (by
      rw [payload_dma]; unfold xferPay oPts; rw [oSlot_set, peer_peer]
      exact Entails.of_eq (pointsTo_congr fun i hi => landO_eq j fd (V.o j c) i hi))) $$ [Hs Hd HO Ht0 Ht1]
  · isplitr; · iapply (inv_at V K (c, some (0, j))); iexact HK
    isplitr; · iapply (inv_at V K (peer j c, some (1, j))); iexact HK
    isplitl [Hs]; · unfold oSrc; rw [View.set_whole]; iexact Hs
    isplitl [Hd]; · unfold oPts; rw [oSlot_set]; iexact Hd
    isplitl [HO]; · iexact HO
    isplitl [Ht0]; · iexact Ht0
    isplitr; · iapply (reached_at V K (c, some (0, j))); iexact HK
    isplitl [Ht1]; · iexact Ht1
    iapply (reached_at V K (peer j c, some (1, j))); iexact HK
  iexact Hk

/-- Device `c` starts exchange `j`'s transfer of its maxima and sums. -/
theorem sendM_step {α : Type} {Ψ : α → sProp 𝕄} {k : PUnit → Prog (TpuEff nD τ sig (Elt F) Λ₀ .tc) α}
    (d' : Dev nD) (hd : d' = peer j c) (src : Memref sig .tc .vmem S256x8 .f32) (hsrc' : src = msM)
    (dst : Memref sig .tc .vmem S256x8 .f32) (hdst' : dst = mSlot j) (sS sD : DmaSem sig) (hS : sS = dsem 2 j) (hD : sD = dsem 3 j)
    {hsc : dst.view.ref.isScScratch = false} {hsrc : src.view.WordExact} {hdst : dst.view.WordExact}
    {hsem : DmaTarget.Typed .vmem (.dma sD) (.remote (Dev.tc d' : Thread nD τ) dst (.dma sS) hsc)}
    (O : CellTallies nD τ sig Unit) (W : Waits sig Unit) :
    iprop(records V K ∗ mSrc (shr j) c (V.ms j c) ∗ (∃ f, mPts j (peer j c) f) ∗ owes (c : Thread nD τ) (O + tallyAt (dCell 3 j (peer j c)) () Nm) W
        ∗ dutyTok ER (dCell 2 j c) 0 0 ∗ dutyTok ER (dCell 3 j (peer j c)) 0 0)
      ⊢ iprop(((cred (tallyAt (dCell 2 j c) () Nm) ∗ owes (c : Thread nD τ) O W) -∗ wp frame (wpE (defs₀ (F := F)) 𝒱₀ (c : Thread nD τ) none) Set.univ (k ⟨⟩) Ψ)
          -∗ wp frame (wpE (defs₀ (F := F)) 𝒱₀ (c : Thread nD τ) none) Set.univ
              (.op (.enqueueDma src (.remote (Dev.tc d' : Thread nD τ) dst (.dma sS) hsc) (.dma sD) hsrc hdst hsem) k) Ψ) := by
  subst hd; subst hsrc'; subst hdst'; subst hS; subst hD
  iintro ⟨#HK, Hs, ⟨%fd, Hd⟩, HO, Ht0, Ht1⟩ Hk
  iapply (Rounds.wp_send_pointsTo 𝒱₀ ER (Rd V) (c : Thread nD τ) none (c' := (peer j c : Thread nD τ)) (src := msM) (dst := mSlot j) (sS := .dma (dsem 2 j)) (sem := .dma (dsem 3 j)) (q := shr j) (fs := V.ms j c) (κ₁ := K (c, some (2, j))) (κ₂ := K (peer j c, some (3, j)))
    (r₁ := 0) (r₂ := 0) (d₁ := 0) (d₂ := 0) (fd := fd)
    (by rw [duties_dma]; exact Finset.mem_singleton_self _) (by rw [duties_dma]; exact Finset.mem_singleton_self _)
    () () Nm (mSlot_credit j) (amount_dma V c 2 j 0) (amount_dma V (peer j c) 3 j 0) O rfl (W := W)
    (by rw [payload_dma]; unfold xferPay mSrc; rw [View.set_whole])
    (by
      rw [payload_dma]; unfold xferPay mPts; rw [mSlot_set, peer_peer]
      exact Entails.of_eq (pointsTo_congr fun i hi => landM_eq j fd (V.ms j c) i hi))) $$ [Hs Hd HO Ht0 Ht1]
  · isplitr; · iapply (inv_at V K (c, some (2, j))); iexact HK
    isplitr; · iapply (inv_at V K (peer j c, some (3, j))); iexact HK
    isplitl [Hs]; · unfold mSrc; rw [View.set_whole]; iexact Hs
    isplitl [Hd]; · unfold mPts; rw [mSlot_set]; iexact Hd
    isplitl [HO]; · iexact HO
    isplitl [Ht0]; · iexact Ht0
    isplitr; · iapply (reached_at V K (c, some (2, j))); iexact HK
    isplitl [Ht1]; · iexact Ht1
    iapply (reached_at V K (peer j c, some (3, j))); iexact HK
  iexact Hk

/-- The wait on kind `t` of slot `j`: what completes there is device `c`'s again. -/
theorem wait_step {α : Type} {Ψ : α → sProp 𝕄} {k : PUnit → Prog (TpuEff nD τ sig (Elt F) Λ₀ .tc) α}
    (t : Fin 4) {s' : Shape} {e' : EltTy} {s : Shape} {e : EltTy} (sem : DmaSem sig) (hsem : sem = dsem t j)
    (src : Memref sig .tc .vmem s' e') (dst : Memref sig .tc .vmem s e) (hc : dst.view.dmaCredit = credit t)
    {hsrc : src.view.WordExact} {hdst : dst.view.WordExact} (O : CellTallies nD τ sig Unit) (W : Waits sig Unit) :
    iprop(records V K ∗ cred (tallyAt (dCell t j c) () (credit t)) ∗ owes (c : Thread nD τ) O W ∗ MayWait (c : Thread nD τ) (.dma (dsem t j)) () O
        ∗ atPos ER (dCell t j c) 0 ∅ 0)
      ⊢ iprop(((owes (c : Thread nD τ) O (insert (SemLoc.dma (dsem t j), ()) W) ∗ atPos ER (dCell t j c) 1 ∅ 0 ∗ xferPay V t j c)
            -∗ wp frame (wpE (defs₀ (F := F)) 𝒱₀ (c : Thread nD τ) none) Set.univ (k ⟨⟩) Ψ)
          -∗ wp frame (wpE (defs₀ (F := F)) 𝒱₀ (c : Thread nD τ) none) Set.univ (.op (.waitDma2 sem src dst hsrc hdst) k) Ψ) := by
  subst hsem
  iintro ⟨#HK, Hc, HO, HM, Ha⟩ Hk
  iapply (Rounds.wp_wait_rest_token 𝒱₀ ER (Rd V) (c : Thread nD τ) none (κ := K (c, some (t, j))) (k' := credit t)
      (fun Kq => (wpE_waitDma2_eq 𝒱₀ (c : Thread nD τ) none Set.univ Kq).trans (by rw [hc])) (Set.mem_univ _) () (O := O) (W := W) (R := 0) (m := 0) (T := ∅)
      (by rw [Nat.zero_add, expect_dma])) $$ [Hc HO HM Ha]
  · isplitr; · iapply (inv_at V K (c, some (t, j))); iexact HK
    isplitl [Hc]; · iexact Hc
    isplitl [HO]; · iexact HO
    isplitl [HM]; · iexact HM
    iexact Ha
  iintro ⟨HO, Ha, -, Hp⟩
  ihave Hp' := (Entails.of_eq (rest_dma V c t j)) $$ Hp
  iapply Hk
  isplitl [HO]; · iexact HO
  isplitl [Ha]; · iexact Ha
  iexact Hp'

end Steps

end Cert.Exchange

end
-- ==== Proof.Owed.lean ====
/-
# What a device owes, and why its waits are safe

A device owes its six barrier signals, then its transfers of the two rounds. Every wait is at a cell below all that the
device still owes: barrier cells lie below first-round arrivals, those below second-round arrivals, departures lowest.
-/
module

public import proofs.«01_k».proof.Proof.Sched

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-- One barrier signal, one transfer of each buffer. -/
def tB (j : Fin 6) (c : Dev nD) : CellTallies nD τ sig Unit := tallyAt (barCell (peer j c)) () 1
def tO (j : Fin 6) (c : Dev nD) : CellTallies nD τ sig Unit := tallyAt (dCell 1 j (peer j c)) () No
def tM (j : Fin 6) (c : Dev nD) : CellTallies nD τ sig Unit := tallyAt (dCell 3 j (peer j c)) () Nm

/-- Owed after the first round's transfers; after the barrier; at the start. -/
def owed2 (c : Dev nD) : CellTallies nD τ sig Unit := 0 + tM 5 c + tO 5 c + tM 4 c + tO 4 c + tM 3 c + tO 3 c
def owed1 (c : Dev nD) : CellTallies nD τ sig Unit := owed2 c + tM 2 c + tO 2 c + tM 1 c + tO 1 c + tM 0 c + tO 0 c
def owed0 (c : Dev nD) : CellTallies nD τ sig Unit := owed1 c + tB 5 c + tB 4 c + tB 3 c + tB 2 c + tB 1 c + tB 0 c

/-- The level of kind `t` of slot `j`. -/
def dlev : Option (Fin 4 × Fin 6) → ℕ
  | some (t, j) => if t.val % 2 = 1 then (if j.val < 3 then 2 else 3) else 0
  | none => 0

def L (g : GSem nD τ sig) : Finset Unit := if g.1.2 = .tc then {()} else ∅
def lv (g : GSem nD τ sig) (_ : Unit) : ℕ := match g.2 with
  | .reg _ => 1
  | .dma q => dlev (dkind q)

theorem L_of_ne (g : GSem nD τ sig) (h : g.1.2 ≠ .tc) : L g = ∅ := if_neg h
theorem L_tc (c : Dev nD) (sm : SemLoc sig) : L ((c : Thread nD τ), sm) = {()} := if_pos rfl
theorem lv_dma (t : Fin 4) (j : Fin 6) (c : Dev nD) : lv (dCell t j c) () = dlev (some (t, j)) := by
  show dlev (dkind (dsem t j)) = _; rw [dkind_dsem]

/-- Everything in `O` lies above level `n`. -/
def Above (n : ℕ) (O : CellTallies nD τ sig Unit) : Prop := ∀ g u, 0 < O g u → u ∈ L g ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} (c : Dev nD) (sm : SemLoc sig) (k : ℕ) (h : n < lv ((c : Thread nD τ), sm) ()) :
    Above n (tallyAt ((c : Thread nD τ), sm) () k) := fun g u hg => by
  rw [tallyAt_apply] at hg
  by_cases e : g = ((c : Thread nD τ), sm) ∧ u = ()
  · rw [e.1, L_tc]; exact ⟨Finset.mem_singleton_self _, h⟩
  · rw [if_neg e] at hg; exact absurd hg (Nat.lt_irrefl 0)

theorem above_tB {n : ℕ} (j : Fin 6) (c : Dev nD) (h : n < 1) : Above n (tB j c) := above_tally _ _ _ h
theorem above_tO {n : ℕ} (j : Fin 6) (c : Dev nD) (h : n < dlev (some (1, j))) : Above n (tO j c) := above_tally _ _ _ (by rw [lv_dma]; exact h)
theorem above_tM {n : ℕ} (j : Fin 6) (c : Dev nD) (h : n < dlev (some (3, j))) : Above n (tM j c) := above_tally _ _ _ (by rw [lv_dma]; exact h)

theorem above_owed2 (c : Dev nD) : Above 2 (owed2 c) := by
  unfold owed2
  repeat first | exact above_zero _ | refine above_add ?_ (above_tO _ c (by decide)) | refine above_add ?_ (above_tM _ c (by decide))
theorem Above.mono {n m : ℕ} {O : CellTallies nD τ sig Unit} (h : Above n O) (hm : m ≤ n) : Above m O :=
  fun g u hg => ⟨(h g u hg).1, hm.trans_lt (h g u hg).2⟩
theorem above_owed1 (c : Dev nD) : Above 1 (owed1 c) := by
  unfold owed1
  repeat first | exact (above_owed2 c).mono (by decide) | refine above_add ?_ (above_tO _ c (by decide)) | refine above_add ?_ (above_tM _ c (by decide))
theorem above_owed0 (c : Dev nD) : Above 0 (owed0 c) := by
  unfold owed0
  repeat first | exact (above_owed1 c).mono (by decide) | refine above_add ?_ (above_tB _ c (by decide))

/-- A wait at a cell of level at most `n` is safe while everything owed lies above `n`. -/
theorem mayWait_of (c : Dev nD) (sm : SemLoc sig) (n : ℕ) (hn : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hn) (fun g u hg => (hO g u hg).2)

theorem mayWait_bar (c : Dev nD) : (levAts L lv : sProp 𝕄) ⊢ MayWait (c : Thread nD τ) (.reg barS) () (owed1 c) :=
  mayWait_of c _ 1 (le_refl _) (above_owed1 c)
theorem mayWait_r0 (c : Dev nD) (t : Fin 4) (j : Fin 6) (h : dlev (some (t, j)) ≤ 2) :
    (levAts L lv : sProp 𝕄) ⊢ MayWait (c : Thread nD τ) (.dma (dsem t j)) () (owed2 c) :=
  mayWait_of c _ 2 (by rw [lv_dma]; exact h) (above_owed2 c)
theorem mayWait_r1 (c : Dev nD) (t : Fin 4) (j : Fin 6) :
    (levAts L lv : sProp 𝕄) ⊢ MayWait (c : Thread nD τ) (.dma (dsem t j)) () 0 := by
  rw [MayWait_zero]; iintro -; iempintro
/-- The pipeline's own waits, at the start and at the end. -/
theorem mayWait_stage (c : Dev nD) (q : DmaSem sig) (hq : dkind q = none) (O : CellTallies nD τ sig Unit) (hO : O = owed0 c ∨ O = 0) :
    (levAts L lv : sProp 𝕄) ⊢ MayWait (c : Thread nD τ) (.dma q) () O := by
  rcases hO with rfl | rfl
  · exact mayWait_of c _ 0 (by show dlev (dkind q) ≤ 0; rw [hq]; exact le_refl _) (above_owed0 c)
  · rw [MayWait_zero]; iintro -; iempintro

end Cert.Exchange

end
-- ==== Proof.Vals.lean ====
/-
# What each device computes and what its buffers hold

The contents of the kernel's buffers, as functions of the five arguments' blocks on all devices: the local part (one
attention block per batch entry and head over the device's own keys), the merge of a device's partial result with the
three it receives (done twice), and the projected result. Everything is stated for any float family.
-/
module

public import proofs.«01_k».proof.Proof.Slots
public import proofs.«01_k».proof.Proof.Gen.KernelIdeal.Skeleton
public import Idealize.ShloMosaic.Lib.Pipeline.Value
public import Idealize.ShloMosaic.Lib.Exec

@[expose] public section

noncomputable section

namespace Cert.Exchange

open Cert.KernelIdeal Cert.KernelIdeal.Gen

open Idealize.ShloMosaic
open Idealize.ShloMosaic.TcCoe
open Idealize.ShloMosaic.ValueIdx (ix2 ix3 eq_ix2 eq_ix3)

variable {F : FTy → Type} [FloatOps F] [Named F]

/-! ## The local block -/

/-- The key block number of a device's first key block is twice this word. -/
def devWord (c : Dev nD) : BitVec 32 := Scalar.remsi (Scalar.divsi (Dev.word c) 1#32) 16#32

/-- Whether query row `i` attends to key column `j` of the device's own keys. -/
def maskOf (c : Dev nD) : IVec S128x128 1 :=
  k0_pay9 k0_pay3
    (k0_pay6 k0_pay3 (Scalar.muli (devWord c) 2#32) (iota .tc S128x128 32 [1] iota_S128x128_d1_w32) 64#32 k0_pay4)
    (k0_pay7 (Scalar.muli (devWord c) 2#32) (iota .tc S128x128 32 [1] iota_S128x128_d1_w32) 64#32 k0_pay4)
    (Scalar.select (Scalar.cmpi .eq 4#32 0#32) 1#32 4#32) k0_pay8

theorem head_slices (b : Fin 2) (h : Fin 4) : S2x128x4x64.Slices ![b.val, 0, h.val, 0] S1x128x1x64 := by
  revert b h; decide
theorem head_inb (b : Fin 2) (h : Fin 4) : ∀ a, (![b.val, 0, h.val, 0] : Fin 4 → ℕ) a + S1x128x1x64.size a ≤ S2x128x4x64.size a := by
  revert b h; decide

/-- The keys, and the values, of batch entry `b` and head `h`. -/
def keyOf (k : (cc0_stg2_0 : Ref sig .tc).ty.Contents (Elt F)) (b : Fin 2) (h : Fin 4) : Vec F S1x128x1x64 .bf16 :=
  (Memref.whole cc0_stg2_0 : Memref sig .tc .vmem S2x128x4x64 .bf16).view.readAt (Elt F)
    (Rect.unit (s := S2x128x4x64) ![b.val, 0, h.val, 0] S1x128x1x64.size (head_inb b h)).toLoadRect k
def valOf (v : (cc0_stg3_0 : Ref sig .tc).ty.Contents (Elt F)) (b : Fin 2) (h : Fin 4) : Vec F S1x128x1x64 .bf16 :=
  (Memref.whole cc0_stg3_0 : Memref sig .tc .vmem S2x128x4x64 .bf16).view.readAt (Elt F)
    (Rect.unit (s := S2x128x4x64) ![b.val, 0, h.val, 0] S1x128x1x64.size (head_inb b h)).toLoadRect v

/-- The projected, scaled queries. -/
def qOf (x : (cc0_stg0_0 : Ref sig .tc).ty.Contents (Elt F)) (wq : (cc0_stg1_0 : Ref sig .tc).ty.Contents (Elt F)) : FVec F S2x128x4x64 .bf16 :=
  k0_pay2
    ((Memref.whole cc0_stg0_0 : Memref sig .tc .vmem S2x128x512 .bf16).view.readAt (Elt F)
      (Rect.unit (s := S2x128x512) ![0, 0, 0] S2x128x512.size inb_S2x128x512_S2x128x512_0_0_0).toLoadRect x)
    ((Memref.whole cc0_stg1_0 : Memref sig .tc .vmem S512x256 .bf16).view.readAt (Elt F)
      (Rect.unit (s := S512x256) ![0, 0] S512x256.size inb_S512x256_S512x256_0_0).toLoadRect wq)

/-- The masked scores of one batch entry and head. -/
def scoreOf (M : IVec S128x128 1) (q : FVec F S2x128x4x64 .bf16) (kb : Vec F S1x128x1x64 .bf16) (b : Fin 2) (h : Fin 4) : FVec F S128x128 .f32 :=
  select M
    (matmul dot_S128x64_S128x64_S128x128_1_1_0_0_n_n none
      (shapeCast S128x64 (extractStridedSlice S1x128x1x64 ![b.val, 0, h.val, 0] q (head_slices b h)) shapeCasts_S1x128x1x64_S128x64)
      (shapeCast S128x64 kb shapeCasts_S1x128x1x64_S128x64)
      (constant S128x128 .f32 0x00000000#32))
    (broadcast S128x128 (Named.named κ "mask" 0xCE6E6B28#32))

/-- Their row maxima. -/
def maxOf (s : FVec F S128x128 .f32) : FVec F S128 .f32 :=
  multiReduction .maximumf [1] S128 s 0xFF800000#32 reduces_S128x128_S128 (.inl rfl) rfl

/-- Their exponentials relative to the row maxima, zero where masked. -/
def expOf (M : IVec S128x128 1) (s : FVec F S128x128 .f32) : FVec F S128x128 .f32 :=
  select M (exp (subf s (broadcastTo S128x128 (shapeCast S128x1 (maxOf s) shapeCasts_S128_S128x1) broadcasts_S128x1_S128x128)))
    (broadcast S128x128 (Scalar.ofBits .f32 0x00000000#32))

/-- The row sums of the exponentials. -/
def sumOf (w : FVec F S128x128 .f32) : FVec F S128 .f32 :=
  multiReduction .add [1] S128 w 0x00000000#32 reduces_S128x128_S128 (.inl rfl) rfl

/-- The exponentials times the values. -/
def wvOf (w : FVec F S128x128 .f32) (vb : Vec F S1x128x1x64 .bf16) : FVec F S128x64 .f32 :=
  matmul dot_S128x128_S128x64_S128x64_1_0_0_1_n_n none (truncf .bf16 w bitsLt_bf16_f32)
    (shapeCast S128x64 vb shapeCasts_S1x128x1x64_S128x64) (constant S128x64 .f32 0x00000000#32)

/-- The arguments' blocks as one device's core holds them. -/
structure Ins (F : FTy → Type) where
  x : (cc0_stg0_0 : Ref sig .tc).ty.Contents (Elt F)
  wq : (cc0_stg1_0 : Ref sig .tc).ty.Contents (Elt F)
  k : (cc0_stg2_0 : Ref sig .tc).ty.Contents (Elt F)
  v : (cc0_stg3_0 : Ref sig .tc).ty.Contents (Elt F)
  wo : (cc0_stg4_0 : Ref sig .tc).ty.Contents (Elt F)

section Local

variable (c : Dev nD) (I : Ins F)

def headScore (b : Fin 2) (h : Fin 4) : FVec F S128x128 .f32 := scoreOf (maskOf c) (qOf I.x I.wq) (keyOf I.k b h) b h
def headMax (b : Fin 2) (h : Fin 4) : FVec F S128 .f32 := maxOf (headScore c I b h)
def headExp (b : Fin 2) (h : Fin 4) : FVec F S128x128 .f32 := expOf (maskOf c) (headScore c I b h)
def headSum (b : Fin 2) (h : Fin 4) : FVec F S128 .f32 := sumOf (headExp c I b h)
def headOut (b : Fin 2) (h : Fin 4) : FVec F S128x64 .f32 := wvOf (headExp c I b h) (valOf I.v b h)

/-- The unnormalised local result: rows are (batch, query), columns (head, dimension). -/
def locO : FVec F S256x256 .f32 :=
  concatenate S256x256 0
    [⟨S128x256, concatenate S128x256 1 [⟨S128x64, headOut c I 0 0⟩, ⟨S128x64, headOut c I 0 1⟩, ⟨S128x64, headOut c I 0 2⟩, ⟨S128x64, headOut c I 0 3⟩]
        concatenates_S128x64_S128x64_S128x64_S128x64_S128x256_d1⟩,
     ⟨S128x256, concatenate S128x256 1 [⟨S128x64, headOut c I 1 0⟩, ⟨S128x64, headOut c I 1 1⟩, ⟨S128x64, headOut c I 1 2⟩, ⟨S128x64, headOut c I 1 3⟩]
        concatenates_S128x64_S128x64_S128x64_S128x64_S128x256_d1⟩]
    concatenates_S128x256_S128x256_S256x256_d0

/-- A row statistic of every head, heads as columns. -/
def statCols (s : Fin 2 → Fin 4 → FVec F S128 .f32) : FVec F S256x4 .f32 :=
  concatenate S256x4 0
    [⟨S128x4, concatenate S128x4 1 [⟨S128x1, shapeCast S128x1 (s 0 0) shapeCasts_S128_S128x1⟩, ⟨S128x1, shapeCast S128x1 (s 0 1) shapeCasts_S128_S128x1⟩,
        ⟨S128x1, shapeCast S128x1 (s 0 2) shapeCasts_S128_S128x1⟩, ⟨S128x1, shapeCast S128x1 (s 0 3) shapeCasts_S128_S128x1⟩]
        concatenates_S128x1_S128x1_S128x1_S128x1_S128x4_d1⟩,
     ⟨S128x4, concatenate S128x4 1 [⟨S128x1, shapeCast S128x1 (s 1 0) shapeCasts_S128_S128x1⟩, ⟨S128x1, shapeCast S128x1 (s 1 1) shapeCasts_S128_S128x1⟩,
        ⟨S128x1, shapeCast S128x1 (s 1 2) shapeCasts_S128_S128x1⟩, ⟨S128x1, shapeCast S128x1 (s 1 3) shapeCasts_S128_S128x1⟩]
        concatenates_S128x1_S128x1_S128x1_S128x1_S128x4_d1⟩]
    concatenates_S128x4_S128x4_S256x4_d0

def locM : FVec F S256x4 .f32 := statCols (headMax c I)
def locS : FVec F S256x4 .f32 := statCols (headSum c I)

end Local

/-! ## Buffers written column block by column block -/

/-- The buffer whose columns `0..3` are `m` and whose columns `4..7` are `s`. -/
def cols2 (m s : FVec F S256x4 .f32) : S256x8.Idx → F .f32 := fun i =>
  if h : (i 1).val < 4 then m (ix2 (i 0 : Fin 256) (⟨(i 1).val, h⟩ : Fin 4))
  else s (ix2 (i 0 : Fin 256) (⟨(i 1).val - 4, by have h' : (i 1).val < 8 := (i 1).isLt; omega⟩ : Fin 4))

/-- The buffer whose columns `64h..64h+63` are `b h`. -/
def cols4 {e : EltTy} (b : Fin 4 → S256x64.Idx → Elt F e) : S256x256.Idx → Elt F e := fun i =>
  b (⟨(i 1).val / 64, by have h' : (i 1).val < 256 := (i 1).isLt; omega⟩ : Fin 4)
    (ix2 (i 0 : Fin 256) (⟨(i 1).val % 64, Nat.mod_lt _ (by decide)⟩ : Fin 64))

/-! ## One merge -/

theorem blk_inb (h : Fin 4) : ∀ a, (![0, 64 * h.val] : Fin 2 → ℕ) a + S256x64.size a ≤ S256x256.size a := by
  revert h; decide
theorem landed_inb (j : Fin 6) (h : Fin 4) : ∀ a, (![j.val, 0, 64 * h.val] : Fin 3 → ℕ) a + S1x256x64.size a ≤ S6x256x256.size a := by
  revert j h; decide
theorem stat_inb (k : Fin 2) : ∀ a, (![0, 4 * k.val] : Fin 2 → ℕ) a + S256x4.size a ≤ S256x8.size a := by
  revert k; decide
theorem landedStat_inb (j : Fin 6) (k : Fin 2) : ∀ a, (![j.val, 0, 4 * k.val] : Fin 3 → ℕ) a + S1x256x4.size a ≤ S6x256x8.size a := by
  revert j k; decide
theorem col_slices (h : Fin 4) : S256x4.Slices ![0, h.val] S256x1 := by revert h; decide

/-- Head `h`'s columns of the accumulator, and of landing slot `j`. -/
def ownBlk (f : (cc0_scratch0 : Ref sig .tc).ty.Contents (Elt F)) (h : Fin 4) : Vec F S256x64 .f32 :=
  (oaM : Memref sig .tc .vmem S256x256 .f32).view.readAt (Elt F) (Rect.unit (s := S256x256) ![0, 64 * h.val] S256x64.size (blk_inb h)).toLoadRect f
def landBlk (f : (cc0_scratch4 : Ref sig .tc).ty.Contents (Elt F)) (j : Fin 6) (h : Fin 4) : Vec F S1x256x64 .bf16 :=
  (orM : Memref sig .tc .vmem S6x256x256 .bf16).view.readAt (Elt F)
    (Rect.unit (s := S6x256x256) ![j.val, 0, 64 * h.val] S1x256x64.size (landed_inb j h)).toLoadRect f
/-- The maxima (`k = 0`) or sums (`k = 1`) of the statistics buffer, and of landing slot `j`. -/
def ownStat (f : (cc0_scratch2 : Ref sig .tc).ty.Contents (Elt F)) (k : Fin 2) : Vec F S256x4 .f32 :=
  (maM : Memref sig .tc .vmem S256x8 .f32).view.readAt (Elt F) (Rect.unit (s := S256x8) ![0, 4 * k.val] S256x4.size (stat_inb k)).toLoadRect f
def landStat (f : (cc0_scratch5 : Ref sig .tc).ty.Contents (Elt F)) (j : Fin 6) (k : Fin 2) : FVec F S256x4 .f32 :=
  shapeCast S256x4 ((mrM : Memref sig .tc .vmem S6x256x8 .f32).view.readAt (Elt F)
    (Rect.unit (s := S6x256x8) ![j.val, 0, 4 * k.val] S1x256x4.size (landedStat_inb j k)).toLoadRect f) shapeCasts_S1x256x4_S256x4

/-- The maximum of four row maxima, the weight that rescales one part, and the four parts' sums rescaled. -/
def top4 (a b c d : FVec F S256x4 .f32) : FVec F S256x4 .f32 := maximumf (maximumf (maximumf a b) c) d
def wt (a t : FVec F S256x4 .f32) : FVec F S256x4 .f32 := exp (subf a t)
def sum4 (wa wb wc wd sa sb sc sd : FVec F S256x4 .f32) : FVec F S256x4 .f32 :=
  addf (addf (addf (mulf wa sa) (mulf wb sb)) (mulf wc sc)) (mulf wd sd)
/-- Column `h` of the weights, across head `h`'s columns. -/
def wcol (w : FVec F S256x4 .f32) (h : Fin 4) : FVec F S256x64 .f32 :=
  broadcastTo S256x64 (extractStridedSlice S256x1 ![0, h.val] w (col_slices h)) broadcasts_S256x1_S256x64
def wide (b : Vec F S1x256x64 .bf16) : FVec F S256x64 .f32 := extf .f32 (shapeCast S256x64 b shapeCasts_S1x256x64_S256x64) bitsLt_bf16_f32
def blk4 (h : Fin 4) (wa wb wc wd : FVec F S256x4 .f32) (A : Vec F S256x64 .f32) (B C D : Vec F S1x256x64 .bf16) : FVec F S256x64 .f32 :=
  addf (addf (addf (mulf A (wcol wa h)) (mulf (wide B) (wcol wb h))) (mulf (wide C) (wcol wc h))) (mulf (wide D) (wcol wd h))

/-- What one device holds between rounds: its weighted values, and its maxima and sums side by side. -/
structure Part (F : FTy → Type) where
  o : (cc0_scratch0 : Ref sig .tc).ty.Contents (Elt F)
  ms : (cc0_scratch2 : Ref sig .tc).ty.Contents (Elt F)

/-- What it receives in one round's three slots. -/
structure Recv (F : FTy → Type) where
  o : Fin 3 → (cc0_scratch4 : Ref sig .tc).ty.Contents (Elt F)
  ms : Fin 3 → (cc0_scratch5 : Ref sig .tc).ty.Contents (Elt F)

section Merge

variable (P : Part F) (R : Recv F) (sl : Fin 3 → Fin 6)

/-- The merged maxima. -/
def mgM : FVec F S256x4 .f32 :=
  top4 (ownStat P.ms 0) (landStat (R.ms 0) (sl 0) 0) (landStat (R.ms 1) (sl 1) 0) (landStat (R.ms 2) (sl 2) 0)
/-- The weights of the device's own part and of the three it received. -/
def mgW0 : FVec F S256x4 .f32 := wt (ownStat P.ms 0) (mgM P R sl)
def mgW (i : Fin 3) : FVec F S256x4 .f32 := wt (landStat (R.ms i) (sl i) 0) (mgM P R sl)
/-- The merged sums. -/
def mgS : FVec F S256x4 .f32 :=
  sum4 (mgW0 P R sl) (mgW P R sl 0) (mgW P R sl 1) (mgW P R sl 2)
    (ownStat P.ms 1) (landStat (R.ms 0) (sl 0) 1) (landStat (R.ms 1) (sl 1) 1) (landStat (R.ms 2) (sl 2) 1)
/-- The merged values of head `h`. -/
def mgO (h : Fin 4) : FVec F S256x64 .f32 :=
  blk4 h (mgW0 P R sl) (mgW P R sl 0) (mgW P R sl 1) (mgW P R sl 2)
    (ownBlk P.o h) (landBlk (R.o 0) (sl 0) h) (landBlk (R.o 1) (sl 1) h) (landBlk (R.o 2) (sl 2) h)

/-- The merge as the buffers hold it. -/
def merged : Part F where
  o := cols4 (e := .f32) (fun h => shapeCast S256x64 (mgO P R sl h) shapeCasts_S256x64_S256x64)
  ms := cols2 (shapeCast S256x4 (mgM P R sl) shapeCasts_S256x4_S256x4) (shapeCast S256x4 (mgS P R sl) shapeCasts_S256x4_S256x4)

/-- The merged values as they are sent on. -/
def mergedSnd : (cc0_scratch1 : Ref sig .tc).ty.Contents (Elt F) :=
  cols4 (e := .bf16) (fun h => shapeCast S256x64 (truncf .bf16 (mgO P R sl h) bitsLt_bf16_f32) shapeCasts_S256x64_S256x64)

end Merge

/-! ## The whole computation, over all devices' arguments -/

section Whole

variable (I : Dev nD → Ins F)

def sl0 : Fin 3 → Fin 6 := fun i => ⟨i.val, by omega⟩
def sl1 : Fin 3 → Fin 6 := fun i => ⟨3 + i.val, by omega⟩

/-- The local part, and what is sent of it. -/
def part0 (c : Dev nD) : Part F where
  o := shapeCast S256x256 (locO c (I c)) shapeCasts_S256x256_S256x256
  ms := cols2 (shapeCast S256x4 (locM c (I c)) shapeCasts_S256x4_S256x4) (shapeCast S256x4 (locS c (I c)) shapeCasts_S256x4_S256x4)
def snd0 (c : Dev nD) : (cc0_scratch1 : Ref sig .tc).ty.Contents (Elt F) :=
  shapeCast S256x256 (truncf .bf16 (locO c (I c)) bitsLt_bf16_f32) shapeCasts_S256x256_S256x256

def recv0 (c : Dev nD) : Recv F where
  o i := landO (snd0 I (peer (sl0 i) c))
  ms i := landM (part0 I (peer (sl0 i) c)).ms

/-- After the first round. -/
def part1 (c : Dev nD) : Part F := merged (part0 I c) (recv0 I c) sl0
def snd1 (c : Dev nD) : (cc0_scratch1 : Ref sig .tc).ty.Contents (Elt F) := mergedSnd (part0 I c) (recv0 I c) sl0

def recv1 (c : Dev nD) : Recv F where
  o i := landO (snd1 I (peer (sl1 i) c))
  ms i := landM (part1 I (peer (sl1 i) c)).ms

/-- After the second. -/
def part2 (c : Dev nD) : Part F := merged (part1 I c) (recv1 I c) sl1

/-- The result block. -/
def outOf (c : Dev nD) : (cc0_stg5_0 : Ref sig .tc).ty.Contents (Elt F) :=
  k0_pay1 (k0_pay115 (ownStat (part2 I c).ms 1) (ownBlk (part2 I c).o 0) (ownBlk (part2 I c).o 1) (ownBlk (part2 I c).o 2) (ownBlk (part2 I c).o 3)
    ((Memref.whole cc0_stg4_0 : Memref sig .tc .vmem S256x512 .bf16).view.readAt (Elt F)
      (Rect.unit (s := S256x512) ![0, 0] S256x512.size inb_S256x512_S256x512_0_0).toLoadRect (I c).wo))

end Whole

/-! ## From the run's writes to these contents -/

section Writes

variable {sp : Space} {e : EltTy}

theorem read_cols2 (v : View sig .tc sp S256x8 .f32) (g : v.ty.Contents (Elt F)) (m s : FVec F S256x4 .f32) (L : List (View.Piece (Elt F) S256x8 .f32)) :
    v.read (Elt F) (v.writes (Elt F) g
      (⟨Rect.unit (s := S256x8) ![0, 4] S256x4.size (stat_inb 1), s⟩ :: ⟨Rect.unit (s := S256x8) ![0, 0] S256x4.size (stat_inb 0), m⟩ :: L)) = cols2 m s := by
  funext y
  have hy : (y 1).val < 8 := (y 1).isLt
  unfold cols2
  by_cases h : (y 1).val < 4
  · rw [dif_pos h, View.read_writes_cons_miss_of_axis (a := 1) (o := 4) (n := 4) (ho := rfl) (hst := rfl) (hn := rfl) (h := Or.inl h)]
    exact View.read_writes_cons_hit_of_coords v g _ _ _ _ y (fun a => by fin_cases a <;> simp [ix2, Rect.unit])
  · rw [dif_neg h]
    exact View.read_writes_cons_hit_of_coords v g _ _ _ _ y (fun a => by fin_cases a <;> simp [ix2, Rect.unit]; omega)

theorem read_cols4 (v : View sig .tc sp S256x256 e) (g : v.ty.Contents (Elt F)) (b : Fin 4 → S256x64.Idx → Elt F e) (L : List (View.Piece (Elt F) S256x256 e)) :
    v.read (Elt F) (v.writes (Elt F) g
      (⟨Rect.unit (s := S256x256) ![0, 192] S256x64.size (blk_inb 3), b 3⟩ :: ⟨Rect.unit (s := S256x256) ![0, 128] S256x64.size (blk_inb 2), b 2⟩
        :: ⟨Rect.unit (s := S256x256) ![0, 64] S256x64.size (blk_inb 1), b 1⟩ :: ⟨Rect.unit (s := S256x256) ![0, 0] S256x64.size (blk_inb 0), b 0⟩ :: L)) = cols4 b := by
  funext y
  have hy : (y 1).val < 256 := (y 1).isLt
  have hit : ∀ (h : Fin 4) (L : List (View.Piece (Elt F) S256x256 e)) (o : ℕ) (ho : o = 64 * h.val) (inb : _), 64 * h.val ≤ (y 1).val → (y 1).val < 64 * h.val + 64 →
      v.read (Elt F) (v.writes (Elt F) g (⟨Rect.unit (s := S256x256) ![0, o] S256x64.size inb, b h⟩ :: L)) y = cols4 b y := by
    intro h L o ho inb h1 h2
    subst ho
    have e1 : (⟨(y 1).val / 64, by omega⟩ : Fin 4) = h := Fin.ext (show (y 1).val / 64 = h.val by omega)
    unfold cols4
    rw [e1]
    exact View.read_writes_cons_hit_of_coords v g _ _ _ _ y (fun a => by fin_cases a <;> simp [ix2, Rect.unit]; omega)
  rcases (by omega : (y 1).val < 64 ∨ (64 ≤ (y 1).val ∧ (y 1).val < 128) ∨ (128 ≤ (y 1).val ∧ (y 1).val < 192) ∨ 192 ≤ (y 1).val) with h | h | h | h
  · rw [View.read_writes_cons_miss_of_axis (a := 1) (o := 192) (n := 64) (ho := rfl) (hst := rfl) (hn := rfl) (h := Or.inl (by omega)),
      View.read_writes_cons_miss_of_axis (a := 1) (o := 128) (n := 64) (ho := rfl) (hst := rfl) (hn := rfl) (h := Or.inl (by omega)),
      View.read_writes_cons_miss_of_axis (a := 1) (o := 64) (n := 64) (ho := rfl) (hst := rfl) (hn := rfl) (h := Or.inl (by omega))]
    exact hit 0 _ 0 rfl _ (Nat.zero_le _) (by simpa using h)
  · rw [View.read_writes_cons_miss_of_axis (a := 1) (o := 192) (n := 64) (ho := rfl) (hst := rfl) (hn := rfl) (h := Or.inl (by omega)),
      View.read_writes_cons_miss_of_axis (a := 1) (o := 128) (n := 64) (ho := rfl) (hst := rfl) (hn := rfl) (h := Or.inl (by omega))]
    exact hit 1 _ 64 rfl _ (by simpa using h.1) (by simpa using h.2)
  · rw [View.read_writes_cons_miss_of_axis (a := 1) (o := 192) (n := 64) (ho := rfl) (hst := rfl) (hn := rfl) (h := Or.inl (by omega))]
    exact hit 2 _ 128 rfl _ (by simpa using h.1) (by simpa using h.2)
  · exact hit 3 _ 192 rfl _ (by simpa using h) (by simpa using hy)

end Writes

/-- The statistics buffer, the accumulator and the send buffer after their column blocks are written. -/
theorem writes_ma (g : (cc0_scratch2 : Ref sig .tc).ty.Contents (Elt F)) (m s : FVec F S256x4 .f32) (L : List (View.Piece (Elt F) S256x8 .f32)) :
    (maM : Memref sig .tc .vmem S256x8 .f32).view.writes (Elt F) g
      (⟨Rect.unit (s := S256x8) ![0, 4] S256x4.size (stat_inb 1), s⟩ :: ⟨Rect.unit (s := S256x8) ![0, 0] S256x4.size (stat_inb 0), m⟩ :: L) = cols2 m s :=
  read_cols2 (maM : Memref sig .tc .vmem S256x8 .f32).view g m s L
theorem writes_oa (g : (cc0_scratch0 : Ref sig .tc).ty.Contents (Elt F)) (b : Fin 4 → S256x64.Idx → Elt F .f32) (L : List (View.Piece (Elt F) S256x256 .f32)) :
    (oaM : Memref sig .tc .vmem S256x256 .f32).view.writes (Elt F) g
      (⟨Rect.unit (s := S256x256) ![0, 192] S256x64.size (blk_inb 3), b 3⟩ :: ⟨Rect.unit (s := S256x256) ![0, 128] S256x64.size (blk_inb 2), b 2⟩
        :: ⟨Rect.unit (s := S256x256) ![0, 64] S256x64.size (blk_inb 1), b 1⟩ :: ⟨Rect.unit (s := S256x256) ![0, 0] S256x64.size (blk_inb 0), b 0⟩ :: L) = cols4 b :=
  read_cols4 (oaM : Memref sig .tc .vmem S256x256 .f32).view g b L
theorem writes_os (g : (cc0_scratch1 : Ref sig .tc).ty.Contents (Elt F)) (b : Fin 4 → S256x64.Idx → Elt F .bf16) (L : List (View.Piece (Elt F) S256x256 .bf16)) :
    (osM : Memref sig .tc .vmem S256x256 .bf16).view.writes (Elt F) g
      (⟨Rect.unit (s := S256x256) ![0, 192] S256x64.size (blk_inb 3), b 3⟩ :: ⟨Rect.unit (s := S256x256) ![0, 128] S256x64.size (blk_inb 2), b 2⟩
        :: ⟨Rect.unit (s := S256x256) ![0, 64] S256x64.size (blk_inb 1), b 1⟩ :: ⟨Rect.unit (s := S256x256) ![0, 0] S256x64.size (blk_inb 0), b 0⟩ :: L) = cols4 b :=
  read_cols4 (osM : Memref sig .tc .vmem S256x256 .bf16).view g b L

theorem zero2 : (![0, 0] : Fin 2 → ℕ) = fun _ => 0 := funext fun a => by fin_cases a <;> rfl
theorem zero3 : (![0, 0, 0] : Fin 3 → ℕ) = fun _ => 0 := funext fun a => by fin_cases a <;> rfl

/-- A whole store leaves its payload; a whole load reads the contents. -/
theorem writes_whole_oa (g w : (cc0_scratch0 : Ref sig .tc).ty.Contents (Elt F)) (h : _) (L : List (View.Piece (Elt F) S256x256 .f32)) :
    (oaM : Memref sig .tc .vmem S256x256 .f32).view.writes (Elt F) g (⟨Rect.unit (s := S256x256) ![0, 0] S256x256.size h, w⟩ :: L) = w :=
  (View.writes_cons _ _ _ _).trans (Memref.write_access_unit_zero_univ (Elt F) cc0_scratch0 zero2 h _ w)
theorem writes_whole_os (g w : (cc0_scratch1 : Ref sig .tc).ty.Contents (Elt F)) (h : _) (L : List (View.Piece (Elt F) S256x256 .bf16)) :
    (osM : Memref sig .tc .vmem S256x256 .bf16).view.writes (Elt F) g (⟨Rect.unit (s := S256x256) ![0, 0] S256x256.size h, w⟩ :: L) = w :=
  (View.writes_cons _ _ _ _).trans (Memref.write_access_unit_zero_univ (Elt F) cc0_scratch1 zero2 h _ w)
theorem writes_whole_ms (g w : (cc0_scratch3 : Ref sig .tc).ty.Contents (Elt F)) (h : _) (L : List (View.Piece (Elt F) S256x8 .f32)) :
    (msM : Memref sig .tc .vmem S256x8 .f32).view.writes (Elt F) g (⟨Rect.unit (s := S256x8) ![0, 0] S256x8.size h, w⟩ :: L) = w :=
  (View.writes_cons _ _ _ _).trans (Memref.write_access_unit_zero_univ (Elt F) cc0_scratch3 zero2 h _ w)
theorem writes_whole_out (g w : (cc0_stg5_0 : Ref sig .tc).ty.Contents (Elt F)) (h : _) (L : List (View.Piece (Elt F) S2x128x512 .f32)) :
    (Memref.whole cc0_stg5_0 : Memref sig .tc .vmem S2x128x512 .f32).view.writes (Elt F) g (⟨Rect.unit (s := S2x128x512) ![0, 0, 0] S2x128x512.size h, w⟩ :: L) = w :=
  (View.writes_cons _ _ _ _).trans (Memref.write_access_unit_zero_univ (Elt F) cc0_stg5_0 zero3 h _ w)
/-- What the statistics buffer holds, copied whole into its send buffer. -/
theorem copy_ms (m s : FVec F S256x4 .f32) (h : _) (h' : _) (L : List (View.Piece (Elt F) S256x8 .f32)) :
    shapeCast S256x8 ((maM : Memref sig .tc .vmem S256x8 .f32).view.readCov (Val := Elt F)
      (⟨Rect.unit (s := S256x8) ![0, 4] S256x4.size (stat_inb 1), s⟩ :: ⟨Rect.unit (s := S256x8) ![0, 0] S256x4.size (stat_inb 0), m⟩ :: L)
      (Rect.unit (s := S256x8) ![0, 0] S256x8.size h).toLoadRect) h' = cols2 m s := by
  unfold View.readCov
  rw [writes_ma]
  exact (shapeCast_self _ h').trans (Memref.readAt_unit_zero (Elt F) cc0_scratch2 zero2 h (cols2 m s))

end Cert.Exchange

end
-- ==== Proof.Steps.lean ====
/-
# The exchange's statements, as the run takes them

The rules of the schedule with their resources one after another, and what one device holds for each slot.
-/
module

public import proofs.«01_k».proof.Proof.Owed
public import proofs.«01_k».proof.Proof.Vals

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- What every device sends, computed from all devices' arguments. -/
def sentOf (I : Dev nD → Ins F) : Sent F where
  o j c := ![snd0 I c, snd0 I c, snd0 I c, snd1 I c, snd1 I c, snd1 I c] j
  ms j c := ![(part0 I c).ms, (part0 I c).ms, (part0 I c).ms, (part1 I c).ms, (part1 I c).ms, (part1 I c).ms] j

/-- The four duty tokens a device pays slot `j`'s transfers with. -/
def sendRes (j : Fin 6) (c : Dev nD) : sProp 𝕄 :=
  iprop(dutyTok ER (dCell 0 j c) 0 (0 : Fin 6) ∗ dutyTok ER (dCell 1 j (peer j c)) 0 (0 : Fin 6)
    ∗ dutyTok ER (dCell 2 j c) 0 (0 : Fin 6) ∗ dutyTok ER (dCell 3 j (peer j c)) 0 (0 : Fin 6))
/-- What it waits at slot `j`'s four cells with: its positions, and the credit of what arrives. -/
def waitRes (j : Fin 6) (c : Dev nD) : sProp 𝕄 :=
  iprop(atPos ER (dCell 0 j c) 0 (∅ : Finset (Fin 6)) 0 ∗ atPos ER (dCell 1 j c) 0 (∅ : Finset (Fin 6)) 0
    ∗ atPos ER (dCell 2 j c) 0 (∅ : Finset (Fin 6)) 0 ∗ atPos ER (dCell 3 j c) 0 (∅ : Finset (Fin 6)) 0
    ∗ cred (tallyAt (dCell 1 j c) () No) ∗ cred (tallyAt (dCell 3 j c) () Nm))
/-- Its positions after slot `j`'s four waits. -/
def doneRes (j : Fin 6) (c : Dev nD) : sProp 𝕄 :=
  iprop(atPos ER (dCell 0 j c) 1 (∅ : Finset (Fin 6)) 0 ∗ atPos ER (dCell 1 j c) 1 (∅ : Finset (Fin 6)) 0
    ∗ atPos ER (dCell 2 j c) 1 (∅ : Finset (Fin 6)) 0 ∗ atPos ER (dCell 3 j c) 1 (∅ : Finset (Fin 6)) 0)

/-- The barrier's payload, slot by slot. -/
theorem bars_eq (c : Dev nD) : (bigSep Finset.univ fun d : Fin 6 => barPay (F := F) d c)
    = iprop(barPay 0 c ∗ barPay 1 c ∗ barPay 2 c ∗ barPay 3 c ∗ barPay 4 c ∗ barPay (F := F) 5 c) := by
  rw [bigSep_univ_eq_bigSepL [(0 : Fin 6), 1, 2, 3, 4, 5] (by decide) (by decide)]; rfl

/-- Three parts, regrouped. -/
theorem regroup3 (A B C : sProp 𝕄) : iprop((A ∗ B) ∗ C) = iprop(C ∗ B ∗ A) := by
  have h1 : iprop((A ∗ B) ∗ C) ⊢ iprop(C ∗ B ∗ A) := by
    iintro ⟨⟨H2, H1⟩, H0⟩
    isplitl [H0]; · iexact H0
    isplitl [H1] <;> iassumption
  have h2 : iprop(C ∗ B ∗ A) ⊢ iprop((A ∗ B) ∗ C) := by
    iintro ⟨H0, H1, H2⟩
    isplitr [H0]
    · isplitl [H2] <;> iassumption
    · iexact H0
  exact Entails.antisymm h1 h2

/-- A whole source lent out as the three shares of a round. -/
theorem oSrc_split (c : Dev nD) (f : (cc0_scratch1 : Ref sig .tc).ty.Contents (Elt F)) :
    oSrc fullShare c f = iprop(oSrc (F := F) (shr 0) c f ∗ oSrc (shr 1) c f ∗ oSrc (shr 2) c f) := by
  have h1 : oSrc fullShare c f = iprop(oSrc (F := F) fullShare.left c f ∗ oSrc fullShare.right c f) :=
    Entails.antisymm (pointsTo_share (PosShare.mem_left_op_right _)).1 (pointsTo_share (PosShare.mem_left_op_right _)).2
  have h2 : oSrc fullShare.left c f = iprop(oSrc (F := F) fullShare.left.left c f ∗ oSrc fullShare.left.right c f) :=
    Entails.antisymm (pointsTo_share (PosShare.mem_left_op_right _)).1 (pointsTo_share (PosShare.mem_left_op_right _)).2
  rw [h1, h2]
  exact regroup3 _ _ _

/-- The same of the maxima and sums. -/
theorem mSrc_split (c : Dev nD) (f : (cc0_scratch3 : Ref sig .tc).ty.Contents (Elt F)) :
    mSrc fullShare c f = iprop(mSrc (F := F) (shr 0) c f ∗ mSrc (shr 1) c f ∗ mSrc (shr 2) c f) := by
  have h1 : mSrc fullShare c f = iprop(mSrc (F := F) fullShare.left c f ∗ mSrc fullShare.right c f) :=
    Entails.antisymm (pointsTo_share (PosShare.mem_left_op_right _)).1 (pointsTo_share (PosShare.mem_left_op_right _)).2
  have h2 : mSrc fullShare.left c f = iprop(mSrc (F := F) fullShare.left.left c f ∗ mSrc fullShare.left.right c f) :=
    Entails.antisymm (pointsTo_share (PosShare.mem_left_op_right _)).1 (pointsTo_share (PosShare.mem_left_op_right _)).2
  rw [h1, h2]
  exact regroup3 _ _ _

section Steps
variable (V : Sent F) (K : Dev nD × Cell → ℕ) (c : Dev nD) (j : Fin 6)

theorem signal_run {α : Type} {Ψ : α → sProp 𝕄} {k : PUnit → Prog (TpuEff nD τ sig (Elt F) Λ₀ .tc) α}
    (d' : Dev nD) (hd : d' = peer j c) (n : ℤ) (hn : n = ((1 : ℕ) : ℤ)) (O : CellTallies nD τ sig Unit) (W : Waits sig Unit) :
    ⊢ iprop(records V K -∗ owes (c : Thread nD τ) (O + tB j c) W -∗ dutyTok ER (barCell (peer j c)) 0 j -∗ barPay (F := F) j (peer j c)
      -∗ (owes (c : Thread nD τ) O W -∗ wp frame (wpE (defs₀ (F := F)) 𝒱₀ (c : Thread nD τ) none) Set.univ (k ⟨⟩) Ψ)
      -∗ wp frame (wpE (defs₀ (F := F)) 𝒱₀ (c : Thread nD τ) none) Set.univ (.op (.semSignal (d' : Thread nD τ) barS n) k) Ψ) := by
  iintro #HK HO Ht Hp Hk
  unfold barPay
  rw [peer_peer]
  icases Hp with ⟨Ho, Hm⟩
  iapply (signal_step V K c j d' hd n hn O W) $$ [HO Ht Ho Hm]
  · isplitr; · iexact HK
    isplitl [HO]; · iexact HO
    isplitl [Ht]; · iexact Ht
    isplitl [Ho]; · iexact Ho
    iexact Hm
  iexact Hk

theorem barrier_run {α : Type} {Ψ : α → sProp 𝕄} {k : PUnit → Prog (TpuEff nD τ sig (Elt F) Λ₀ .tc) α}
    (n : ℤ) (hn : n = ((6 : ℕ) : ℤ)) (W : Waits sig Unit) :
    ⊢ iprop(records V K -∗ levAts L lv -∗ cred (tallyAt (barCell c) () 6) -∗ owes (c : Thread nD τ) (owed1 c) W
      -∗ atPos ER (barCell c) 0 (∅ : Finset (Fin 6)) 0
      -∗ ((owes (c : Thread nD τ) (owed1 c) (insert (SemLoc.reg barS, ()) W) ∗ atPos ER (barCell c) 1 (∅ : Finset (Fin 6)) 0
            ∗ barPay (F := F) 0 c ∗ barPay (F := F) 1 c ∗ barPay (F := F) 2 c ∗ barPay (F := F) 3 c ∗ barPay (F := F) 4 c ∗ barPay (F := F) 5 c)
          -∗ wp frame (wpE (defs₀ (F := F)) 𝒱₀ (c : Thread nD τ) none) Set.univ (k ⟨⟩) Ψ)
      -∗ wp frame (wpE (defs₀ (F := F)) 𝒱₀ (c : Thread nD τ) none) Set.univ (.op (.semWait barS n) k) Ψ) := by
  iintro #HK #HL Hc HO Ha Hk
  iapply (barrier_step V K c n hn (owed1 c) W) $$ [Hc HO Ha]
  · isplitr; · iexact HK
    isplitl [Hc]; · iexact Hc
    isplitl [HO]; · iexact HO
    isplitr; · iapply (mayWait_bar c); iexact HL
    iexact Ha
  iintro ⟨HO, Ha, Hb⟩
  ihave Hb' := (Entails.of_eq (bars_eq c)) $$ Hb
  iapply Hk
  isplitl [HO]; · iexact HO
  isplitl [Ha]; · iexact Ha
  iexact Hb'

theorem sendO_run {α : Type} {Ψ : α → sProp 𝕄} {k : PUnit → Prog (TpuEff nD τ sig (Elt F) Λ₀ .tc) α}
    (d' : Dev nD) (hd : d' = peer j c) (src : Memref sig .tc .vmem S256x256 .bf16) (hsrc' : src = osM)
    (dst : Memref sig .tc .vmem S256x256 .bf16) (hdst' : dst = oSlot j) (sS sD : DmaSem sig) (hS : sS = dsem 0 j) (hD : sD = dsem 1 j)
    {hsc : dst.view.ref.isScScratch = false} {hsrc : src.view.WordExact} {hdst : dst.view.WordExact}
    {hsem : DmaTarget.Typed .vmem (.dma sD) (.remote (Dev.tc d' : Thread nD τ) dst (.dma sS) hsc)}
    (O : CellTallies nD τ sig Unit) (W : Waits sig Unit) :
    ⊢ iprop(records V K -∗ oSrc (shr j) c (V.o j c) -∗ (∃ f, oPts j (peer j c) f) -∗ owes (c : Thread nD τ) (O + tO j c) W
      -∗ dutyTok ER (dCell 0 j c) 0 (0 : Fin 6) -∗ dutyTok ER (dCell 1 j (peer j c)) 0 (0 : Fin 6)
      -∗ ((cred (tallyAt (dCell 0 j c) () No) ∗ owes (c : Thread nD τ) O W) -∗ wp frame (wpE (defs₀ (F := F)) 𝒱₀ (c : Thread nD τ) none) Set.univ (k ⟨⟩) Ψ)
      -∗ wp frame (wpE (defs₀ (F := F)) 𝒱₀ (c : Thread nD τ) none) Set.univ
              (.op (.enqueueDma src (.remote (Dev.tc d' : Thread nD τ) dst (.dma sS) hsc) (.dma sD) hsrc hdst hsem) k) Ψ) := by
  iintro #HK Hs Hd HO Ht0 Ht1 Hk
  iapply (sendO_step V K c j d' hd src hsrc' dst hdst' sS sD hS hD O W) $$ [Hs Hd HO Ht0 Ht1]
  · isplitr; · iexact HK
    isplitl [Hs]; · iexact Hs
    isplitl [Hd]; · iexact Hd
    isplitl [HO]; · iexact HO
    isplitl [Ht0]; · iexact Ht0
    iexact Ht1
  iexact Hk

theorem sendM_run {α : Type} {Ψ : α → sProp 𝕄} {k : PUnit → Prog (TpuEff nD τ sig (Elt F) Λ₀ .tc) α}
    (d' : Dev nD) (hd : d' = peer j c) (src : Memref sig .tc .vmem S256x8 .f32) (hsrc' : src = msM)
    (dst : Memref sig .tc .vmem S256x8 .f32) (hdst' : dst = mSlot j) (sS sD : DmaSem sig) (hS : sS = dsem 2 j) (hD : sD = dsem 3 j)
    {hsc : dst.view.ref.isScScratch = false} {hsrc : src.view.WordExact} {hdst : dst.view.WordExact}
    {hsem : DmaTarget.Typed .vmem (.dma sD) (.remote (Dev.tc d' : Thread nD τ) dst (.dma sS) hsc)}
    (O : CellTallies nD τ sig Unit) (W : Waits sig Unit) :
    ⊢ iprop(records V K -∗ mSrc (shr j) c (V.ms j c) -∗ (∃ f, mPts j (peer j c) f) -∗ owes (c : Thread nD τ) (O + tM j c) W
      -∗ dutyTok ER (dCell 2 j c) 0 (0 : Fin 6) -∗ dutyTok ER (dCell 3 j (peer j c)) 0 (0 : Fin 6)
      -∗ ((cred (tallyAt (dCell 2 j c) () Nm) ∗ owes (c : Thread nD τ) O W) -∗ wp frame (wpE (defs₀ (F := F)) 𝒱₀ (c : Thread nD τ) none) Set.univ (k ⟨⟩) Ψ)
      -∗ wp frame (wpE (defs₀ (F := F)) 𝒱₀ (c : Thread nD τ) none) Set.univ
              (.op (.enqueueDma src (.remote (Dev.tc d' : Thread nD τ) dst (.dma sS) hsc) (.dma sD) hsrc hdst hsem) k) Ψ) := by
  iintro #HK Hs Hd HO Ht0 Ht1 Hk
  iapply (sendM_step V K c j d' hd src hsrc' dst hdst' sS sD hS hD O W) $$ [Hs Hd HO Ht0 Ht1]
  · isplitr; · iexact HK
    isplitl [Hs]; · iexact Hs
    isplitl [Hd]; · iexact Hd
    isplitl [HO]; · iexact HO
    isplitl [Ht0]; · iexact Ht0
    iexact Ht1
  iexact Hk

theorem wait_run {α : Type} {Ψ : α → sProp 𝕄} {k : PUnit → Prog (TpuEff nD τ sig (Elt F) Λ₀ .tc) α}
    (t : Fin 4) (n : ℕ) (hn : credit t = n) {s' : Shape} {e' : EltTy} {s : Shape} {e : EltTy} (sem : DmaSem sig) (hsem : sem = dsem t j)
    (src : Memref sig .tc .vmem s' e') (dst : Memref sig .tc .vmem s e) (hc : dst.view.dmaCredit = n)
    {hsrc : src.view.WordExact} {hdst : dst.view.WordExact} (O : CellTallies nD τ sig Unit)
    (hO : (levAts L lv : sProp 𝕄) ⊢ MayWait (c : Thread nD τ) (.dma (dsem t j)) () O) (W : Waits sig Unit) :
    ⊢ iprop(records V K -∗ levAts L lv -∗ cred (tallyAt (dCell t j c) () n) -∗ owes (c : Thread nD τ) O W
        -∗ atPos ER (dCell t j c) 0 (∅ : Finset (Fin 6)) 0
      -∗ ((owes (c : Thread nD τ) O (insert (SemLoc.dma (dsem t j), ()) W) ∗ atPos ER (dCell t j c) 1 (∅ : Finset (Fin 6)) 0 ∗ xferPay V t j c)
            -∗ wp frame (wpE (defs₀ (F := F)) 𝒱₀ (c : Thread nD τ) none) Set.univ (k ⟨⟩) Ψ)
      -∗ wp frame (wpE (defs₀ (F := F)) 𝒱₀ (c : Thread nD τ) none) Set.univ (.op (.waitDma2 sem src dst hsrc hdst) k) Ψ) := by
  subst hn
  iintro #HK #HL Hc HO Ha Hk
  iapply (wait_step V K c j t sem hsem src dst hc O W) $$ [Hc HO Ha]
  · isplitr; · iexact HK
    isplitl [Hc]; · iexact Hc
    isplitl [HO]; · iexact HO
    isplitr; · iapply hO; iexact HL
    iexact Ha
  iexact Hk

end Steps

end Cert.Exchange

end
-- ==== Proof.Ghost.lean ====
/-
# What the launch deals the devices

At the launch every cell of the exchange is allocated, and each device receives its positions at its own cells, the tokens
of the duties IT pays (the tokens are minted per payer), and the credit of what its partners owe it.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-! ## Conjunctions over slots and cells -/

theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Over the kinds and slots, slot by slot. -/
theorem slots_eq (Φ : Fin 4 × Fin 6 → sProp 𝕄) :
    bigSep Finset.univ Φ = bigSep Finset.univ fun j : Fin 6 => iprop(Φ (0, j) ∗ Φ (1, j) ∗ Φ (2, j) ∗ Φ (3, j)) := by
  have e := bigSep_univ_equiv (Equiv.prodComm (Fin 6) (Fin 4)) Φ
  rw [e, bigSep_univ_prod]
  exact bigSep_congr fun j _ => by rw [four]; rfl

/-- Over an added element. -/
theorem option_eq {A : Type} [Fintype A] [DecidableEq A] (Φ : Option A → sProp 𝕄) :
    bigSep Finset.univ Φ = iprop(Φ none ∗ bigSep Finset.univ fun a : A => Φ (some a)) := by
  rw [bigSep_univ_at _ (none : Option A)]
  congr 1
  rw [show (Finset.univ.erase (none : Option A)) = Finset.univ.map Function.Embedding.some from by
    ext a; cases a <;> simp]
  rw [bigSep_map]; rfl

/-- Over a device's cells. -/
theorem cells_eq (Φ : Cell → sProp 𝕄) :
    bigSep Finset.univ Φ = iprop(Φ none ∗ bigSep Finset.univ fun j : Fin 6 => iprop(Φ (some (0, j)) ∗ Φ (some (1, j)) ∗ Φ (some (2, j)) ∗ Φ (some (3, j)))) := by
  rw [option_eq, slots_eq]

/-! ## Cells and tokens -/

/-- A device's transfer semaphores. -/
abbrev osem (p : Fin 4 × Fin 6) : SemLoc sig := .dma (dsem p.1 p.2)

theorem ownSemFacts : Pipeline.OwnSemFacts cfg0.spec osem := by
  refine ⟨by decide, fun p p' h => ?_, by decide⟩
  have := dsem_inj (SemLoc.dma.inj h)
  exact Prod.ext this.1 this.2

theorem csem_inj : Function.Injective csem := by
  rintro (_ | ⟨t, j⟩) (_ | ⟨t', j'⟩) h
  · rfl
  · exact absurd h (by intro h'; cases h')
  · exact absurd h (by intro h'; cases h')
  · have := dsem_inj (SemLoc.dma.inj h)
    rw [this.1, this.2]

theorem kcell_inj : Function.Injective (kcell : Dev nD × Cell → GSem nD τ sig) := by
  rintro ⟨c, k⟩ ⟨c', k'⟩ h
  have h1 : c = c' := congrArg (fun g : GSem nD τ sig => g.1.1) h
  have h2 : k = k' := csem_inj (congrArg Prod.snd h)
  rw [h1, h2]

def allCells : Finset (GSem nD τ sig) := Finset.univ.map ⟨kcell, kcell_inj⟩

/-- The token device `c` pays slot `j`'s barrier signal with (`none`), or kind `t` of its transfers: kinds 1 and 3 complete
    on the partner. -/
def tokOf (x : Dev nD × Fin 6 × Option (Fin 4)) : GSem nD τ sig × ℕ × Fin 6 := match x with
  | (c, j, none) => (barCell (peer j c), 0, j)
  | (c, j, some t) => (dCell t j (if t.val % 2 = 1 then peer j c else c), 0, 0)

theorem tokOf_inj : Function.Injective tokOf := by
  rintro ⟨c, j, _ | t⟩ ⟨c', j', _ | t'⟩ h
  · have hj : j = j' := congrArg (fun x : GSem nD τ sig × ℕ × Fin 6 => x.2.2) h
    subst hj
    have hc : peer j c = peer j c' := congrArg (fun x : GSem nD τ sig × ℕ × Fin 6 => x.1.1.1) h
    rw [peer_inj hc]
  · exact absurd (congrArg (fun x : GSem nD τ sig × ℕ × Fin 6 => x.1.2) h) (by intro h'; cases h')
  · exact absurd (congrArg (fun x : GSem nD τ sig × ℕ × Fin 6 => x.1.2) h) (by intro h'; cases h')
  · have hs := congrArg (fun x : GSem nD τ sig × ℕ × Fin 6 => x.1.2) h
    obtain ⟨ht, hj⟩ := dsem_inj (SemLoc.dma.inj hs)
    subst ht; subst hj
    have hc : (if t.val % 2 = 1 then peer j c else c) = (if t.val % 2 = 1 then peer j c' else c') :=
      congrArg (fun x : GSem nD τ sig × ℕ × Fin 6 => x.1.1.1) h
    by_cases hp : t.val % 2 = 1
    · rw [if_pos hp, if_pos hp] at hc; rw [peer_inj hc]
    · rw [if_neg hp, if_neg hp] at hc; rw [hc]

def allToks : Finset (GSem nD τ sig × ℕ × Fin 6) := Finset.univ.map ⟨tokOf, tokOf_inj⟩

/-- The launch's ghost element. -/
def u₀ : UU := (initOf (Pipeline.cells cfgs cellOf_inj) (Pipeline.launchToks cfgs cellOf_inj), initOf allCells allToks)

/-- The tokens device `c` pays with. -/
def payToks (c : Dev nD) : sProp 𝕄 :=
  bigSep Finset.univ fun j : Fin 6 => iprop(dutyTok ER (barCell (peer j c)) 0 j ∗ sendRes (F := F) j c)

/-- Its positions: at its barrier, and at its transfer semaphores. -/
def poss (c : Dev nD) : sProp 𝕄 :=
  iprop(atPos ER (barCell c) 0 (∅ : Finset (Fin 6)) 0
    ∗ bigSep Finset.univ fun j : Fin 6 => iprop(atPos ER (dCell 0 j c) 0 (∅ : Finset (Fin 6)) 0 ∗ atPos ER (dCell 1 j c) 0 (∅ : Finset (Fin 6)) 0
        ∗ atPos ER (dCell 2 j c) 0 (∅ : Finset (Fin 6)) 0 ∗ atPos ER (dCell 3 j c) 0 (∅ : Finset (Fin 6)) 0))

section Launch
variable (V : Sent F)

/-- What the launch element deals device `c`. -/
def G (c : Dev nD) : sProp 𝕄 :=
  iprop((bigSep Finset.univ fun k : Cell => roundState ER (Rd V) (kcell (c, k)) 0)
    ∗ (bigSep Finset.univ fun k : Cell => iprop(atPos ER (kcell (c, k)) 0 ∅ 0 ∗ reached ER (kcell (c, k)) 0)) ∗ payToks c)

/-- What the global step makes of it. -/
def G' (c : Dev nD) : sProp 𝕄 := iprop(∃ K, records V K ∗ poss c ∗ payToks c)

theorem fund_cells : BI.own (ER (initOf allCells allToks)) ⊢ (|==> bigSep Finset.univ (G V) : sProp 𝕄) := by
  have hX (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have hT : bigSep allToks (fun x => (dutyTok ER x.1 x.2.1 x.2.2 : sProp 𝕄)) = bigSep Finset.univ fun c : Dev nD => payToks c := by
    unfold allToks; rw [bigSep_map, bigSep_univ_prod]
    refine bigSep_congr fun c _ => ?_
    unfold payToks
    rw [bigSep_univ_prod]
    refine bigSep_congr fun j _ => ?_
    rw [option_eq, four]
    rfl
  iintro HX
  imod (Rounds.fund ER (Rd V) allCells allToks) $$ HX with ⟨Hst, Hr, Hat, Htok⟩
  imodintro
  ihave Hst' := (Entails.of_eq (hX fun g => roundState ER (Rd V) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- Own semaphores are the transfer semaphores; the one other is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    (bigSep Finset.univ fun k : Cell => semVal (kcell (c, k)) 0 : sProp 𝕄)
      = iprop(unscopedSems0 c ∗ Pipeline.ownSems0 (Ix := Unit) (Name := ℕ) (U := UU) (Lvl := ℕ) (Val := Elt F) (τ := τ) osem c) := by
  rw [option_eq, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G V c)
      ⊢ |={Set.univ}=> iprop((bigSep Finset.univ fun k => iprop(∃ κ : ℕ, cellInv ER (Rd V) κ (kcell (c, k))))
          ∗ (bigSep Finset.univ fun k : Cell => iprop(atPos ER (kcell (c, k)) 0 ∅ 0 ∗ reached ER (kcell (c, k)) 0)) ∗ payToks c) := by
  have hs := Entails.of_eq (sems0_eq (F := F) c).symm
  have ha : iprop((bigSep Finset.univ fun k : Cell => semVal (kcell (c, k)) 0) ∗ bigSep Finset.univ fun k : Cell => roundState ER (Rd V) (kcell (c, k)) 0)
      ⊢ (|={Set.univ}=> bigSep Finset.univ fun k => iprop(∃ κ : ℕ, cellInv ER (Rd V) κ (kcell (c, k))) : sProp 𝕄) := by
    rw [← bigSep_sep']
    exact (bigSep_mono fun k _ => (Rounds.body_intro ER (Rd V) (kcell (c, k))).trans inv_alloc).trans (bigSep_fupd _ _)
  unfold G
  iintro ⟨Hos, Hus, Hst, Hat, Htok⟩
  ihave Hv := hs $$ [Hos Hus]
  · isplitl [Hus] <;> iassumption
  imod ha $$ [Hv Hst] with Hinv
  · isplitl [Hv] <;> iassumption
  imodintro
  isplitl [Hinv]; · iexact Hinv
  isplitl [Hat]; · iexact Hat
  iexact Htok

/-- A persistent part shared out over a conjunction. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd V) κ (kcell (c, k))))
          ∗ (bigSep Finset.univ fun k : Cell => iprop(atPos ER (kcell (c, k)) 0 ∅ 0 ∗ reached ER (kcell (c, k)) 0)) ∗ payToks c) : sProp 𝕄)
      ⊢ bigSep Finset.univ (G' V) := by
  rw [bigSep_sep', bigSep_sep', ← bigSep_univ_prod (fun ck : Dev nD × Cell => iprop(∃ κ : ℕ, cellInv ER (Rd V) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  have hpi := BI.bigSep_exists_pi Finset.univ (fun (ck : Dev nD × Cell) (κ : ℕ) => (cellInv ER (Rd V) κ (kcell ck) : sProp 𝕄))
  have hpos : ∀ c : Dev nD, (bigSep Finset.univ fun k : Cell => (atPos ER (kcell (c, k)) 0 (∅ : Finset (Fin 6)) 0 : sProp 𝕄)) = poss c := fun c => by
    rw [cells_eq]; rfl
  have hjoin : iprop((bigSep Finset.univ fun c : Dev nD => bigSep Finset.univ fun k : Cell => (atPos ER (kcell (c, k)) 0 (∅ : Finset (Fin 6)) 0 : sProp 𝕄))
      ∗ bigSep Finset.univ fun c : Dev nD => (payToks c : sProp 𝕄)) ⊢ bigSep Finset.univ fun c : Dev nD => iprop(poss c ∗ payToks (F := F) c) := by
    rw [bigSep_sep', bigSep_congr (s := Finset.univ) (fun (c : Dev nD) _ => hpos c)]
  have hout (K : Dev nD × Cell → ℕ) : iprop(records V K ∗ bigSep Finset.univ fun c : Dev nD => iprop(poss c ∗ payToks (F := F) c)) ⊢ bigSep Finset.univ (G' V) :=
    share_out (R := records V K) fun c _ => by
      unfold G'
      iintro ⟨#HK, Hp, Ht⟩
      iexists K
      isplitr; · iexact HK
      isplitl [Hp] <;> iassumption
  iintro ⟨HI, ⟨Hat, #HR⟩, Htok⟩
  ihave HK := hpi $$ HI
  icases HK with ⟨%K, #HI⟩
  iapply (hout K)
  isplitr
  · unfold records; isplitl; · iexact HI
    iexact HR
  · iapply hjoin
    isplitl [Hat]; · iexact Hat
    iexact Htok

/-- The global step: all devices' semaphores at once. -/
theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

end Launch

/-! ## The credit -/

theorem cred_plus (a b : CellTallies nD τ sig Unit) : (cred (a + b) : sProp 𝕄) = iprop(cred a ∗ cred b) :=
  Entails.antisymm (cred_add a b).1 (cred_add a b).2

theorem bar_tally (c : Dev nD) (m n : ℕ) : tallyAt (barCell c) () m + tallyAt (barCell c) () n = (tallyAt (barCell c) () (m + n) : CellTallies nD τ sig Unit) := by
  unfold tallyAt; rw [← tallyOn_add, ← Finsupp.single_add]

theorem launch_tB (j : Fin 6) (c : Dev nD) : (Pipeline.launchCred (tB j) c : sProp 𝕄) ⊢ cred (tallyAt (barCell c) () 1) :=
  Pipeline.launchCred_tallyAt (.reg barS) (peer j) (peer j) (peer_peer j) (peer_peer j) () 1 c
theorem launch_tO (j : Fin 6) (c : Dev nD) : (Pipeline.launchCred (tO j) c : sProp 𝕄) ⊢ cred (tallyAt (dCell 1 j c) () No) :=
  Pipeline.launchCred_tallyAt (.dma (dsem 1 j)) (peer j) (peer j) (peer_peer j) (peer_peer j) () No c
theorem launch_tM (j : Fin 6) (c : Dev nD) : (Pipeline.launchCred (tM j) c : sProp 𝕄) ⊢ cred (tallyAt (dCell 3 j c) () Nm) :=
  Pipeline.launchCred_tallyAt (.dma (dsem 3 j)) (peer j) (peer j) (peer_peer j) (peer_peer j) () Nm c

/-- The credit of slot `j`'s two arrivals. -/
def arr (j : Fin 6) (c : Dev nD) : sProp 𝕄 := iprop(cred (tallyAt (dCell 1 j c) () No) ∗ cred (tallyAt (dCell 3 j c) () Nm))

theorem owed2_cred (c : Dev nD) : (Pipeline.launchCred owed2 c : sProp 𝕄) ⊢ iprop(arr 3 c ∗ arr 4 c ∗ arr (F := F) 5 c) := by
  have e : (Pipeline.launchCred owed2 c : sProp 𝕄) = iprop(((((((Pipeline.launchCred (fun _ : Dev nD => (0 : CellTallies nD τ sig Unit)) c ∗ Pipeline.launchCred (tM 5) c) ∗ Pipeline.launchCred (tO 5) c)
      ∗ Pipeline.launchCred (tM 4) c) ∗ Pipeline.launchCred (tO 4) c) ∗ Pipeline.launchCred (tM 3) c) ∗ Pipeline.launchCred (tO 3) c)) := by
    rw [← Pipeline.launchCred_add, ← Pipeline.launchCred_add, ← Pipeline.launchCred_add, ← Pipeline.launchCred_add, ← Pipeline.launchCred_add, ← Pipeline.launchCred_add]; rfl
  have h : ∀ j : Fin 6, iprop(Pipeline.launchCred (tO j) c ∗ Pipeline.launchCred (tM j) c) ⊢ (arr j c : sProp 𝕄) := fun j => by
    unfold arr; exact BI.sep_mono (launch_tO j c) (launch_tM j c)
  have h3 := h 3
  have h4 := h 4
  have h5 := h 5
  rw [e]
  iintro ⟨⟨⟨⟨⟨⟨-, M5⟩, O5⟩, M4⟩, O4⟩, M3⟩, O3⟩
  isplitl [O3 M3]; · iapply h3; isplitl [O3] <;> iassumption
  isplitl [O4 M4]; · iapply h4; isplitl [O4] <;> iassumption
  iapply h5; isplitl [O5] <;> iassumption

theorem owed1_cred (c : Dev nD) : (Pipeline.launchCred owed1 c : sProp 𝕄) ⊢ bigSep Finset.univ fun j : Fin 6 => arr (F := F) j c := by
  have e : (Pipeline.launchCred owed1 c : sProp 𝕄) = iprop(((((((Pipeline.launchCred owed2 c ∗ Pipeline.launchCred (tM 2) c) ∗ Pipeline.launchCred (tO 2) c)
      ∗ Pipeline.launchCred (tM 1) c) ∗ Pipeline.launchCred (tO 1) c) ∗ Pipeline.launchCred (tM 0) c) ∗ Pipeline.launchCred (tO 0) c)) := by
    rw [← Pipeline.launchCred_add, ← Pipeline.launchCred_add, ← Pipeline.launchCred_add, ← Pipeline.launchCred_add, ← Pipeline.launchCred_add, ← Pipeline.launchCred_add]; rfl
  have h : ∀ j : Fin 6, iprop(Pipeline.launchCred (tO j) c ∗ Pipeline.launchCred (tM j) c) ⊢ (arr j c : sProp 𝕄) := fun j => by
    unfold arr; exact BI.sep_mono (launch_tO j c) (launch_tM j c)
  have h0 := h 0
  have h1 := h 1
  have h2 := h 2
  have hR := owed2_cred (F := F) c
  rw [e, six]
  iintro ⟨⟨⟨⟨⟨⟨HR, M2⟩, O2⟩, M1⟩, O1⟩, M0⟩, O0⟩
  isplitl [O0 M0]; · iapply h0; isplitl [O0] <;> iassumption
  isplitl [O1 M1]; · iapply h1; isplitl [O1] <;> iassumption
  isplitl [O2 M2]; · iapply h2; isplitl [O2] <;> iassumption
  iapply hR; iexact HR

/-- A device's launch credit: its six barrier units and the twelve arrivals. -/
theorem owed0_cred (c : Dev nD) : (Pipeline.launchCred owed0 c : sProp 𝕄)
    ⊢ iprop(cred (tallyAt (barCell c) () 6) ∗ bigSep Finset.univ fun j : Fin 6 => arr (F := F) j c) := by
  have e : (Pipeline.launchCred owed0 c : sProp 𝕄) = iprop(((((((Pipeline.launchCred owed1 c ∗ Pipeline.launchCred (tB 5) c) ∗ Pipeline.launchCred (tB 4) c)
      ∗ Pipeline.launchCred (tB 3) c) ∗ Pipeline.launchCred (tB 2) c) ∗ Pipeline.launchCred (tB 1) c) ∗ Pipeline.launchCred (tB 0) c)) := by
    rw [← Pipeline.launchCred_add, ← Pipeline.launchCred_add, ← Pipeline.launchCred_add, ← Pipeline.launchCred_add, ← Pipeline.launchCred_add, ← Pipeline.launchCred_add]; rfl
  have e6 : (cred (tallyAt (barCell c) () 6) : sProp 𝕄) = iprop(((((cred (tallyAt (barCell c) () 1) ∗ cred (tallyAt (barCell c) () 1)) ∗ cred (tallyAt (barCell c) () 1))
      ∗ cred (tallyAt (barCell c) () 1)) ∗ cred (tallyAt (barCell c) () 1)) ∗ cred (tallyAt (barCell c) () 1)) := by
    rw [← cred_plus, ← cred_plus, ← cred_plus, ← cred_plus, ← cred_plus, bar_tally, bar_tally, bar_tally, bar_tally, bar_tally]
  have h : ∀ j : Fin 6, (Pipeline.launchCred (tB j) c : sProp 𝕄) ⊢ cred (tallyAt (barCell c) () 1) := fun j => launch_tB j c
  have hR := owed1_cred (F := F) c
  have b0 := h 0
  have b1 := h 1
  have b2 := h 2
  have b3 := h 3
  have b4 := h 4
  have b5 := h 5
  rw [e, e6]
  iintro ⟨⟨⟨⟨⟨⟨HR, B5⟩, B4⟩, B3⟩, B2⟩, B1⟩, B0⟩
  isplitr [HR]
  · isplitr [B5]
    · isplitr [B4]
      · isplitr [B3]
        · isplitr [B2]
          · isplitl [B0]
            · iapply b0; iexact B0
            · iapply b1; iexact B1
          · iapply b2; iexact B2
        · iapply b3; iexact B3
      · iapply b4; iexact B4
    · iapply b5; iexact B5
  · iapply hR; iexact HR

end Cert.Exchange

end
-- ==== Proof.Run.lean ====
/-
# One device's run

The kernel's body from a device's buffers and its part of the exchange, statement by statement, to its result block.
-/
module

public import proofs.«01_k».proof.Proof.Steps
public import proofs.«01_k».proof.Proof.Gen.KernelIdeal.Skeleton
public import Idealize.ShloMosaic.Lib.Exec

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- A whole buffer of device `c` holding `f`. -/
abbrev holds (c : Dev nD) (b : Ref sig .tc) (f : b.ty.Contents (Elt F)) : sProp 𝕄 :=
  (Memref.whole b).view.loc (c : Thread nD τ) ↦{fullShare} f

/-- A rectangle of device `c`'s landing buffers holding `f`. -/
abbrev landsO (c : Dev nD) (R : Rect S6x256x256) (f : (cc0_scratch4 : Ref sig .tc).ty.Contents (Elt F)) : sProp 𝕄 :=
  (Memref.whole cc0_scratch4).view.loc (c : Thread nD τ) ↦[(Memref.whole cc0_scratch4).view.setOn R.set]{fullShare} f
abbrev landsM (c : Dev nD) (R : Rect S6x256x8) (f : (cc0_scratch5 : Ref sig .tc).ty.Contents (Elt F)) : sProp 𝕄 :=
  (Memref.whole cc0_scratch5).view.loc (c : Thread nD τ) ↦[(Memref.whole cc0_scratch5).view.setOn R.set]{fullShare} f

/-- What device `c` starts with. -/
def runPre (I : Dev nD → Ins F) (K : Dev nD × Cell → ℕ) (c : Dev nD) (W : Waits sig Unit) (f5 : (cc0_stg5_0 : Ref sig .tc).ty.Contents (Elt F))
    (g0 : (cc0_scratch0 : Ref sig .tc).ty.Contents (Elt F)) (g1 : (cc0_scratch1 : Ref sig .tc).ty.Contents (Elt F))
    (g2 : (cc0_scratch2 : Ref sig .tc).ty.Contents (Elt F)) (g3 : (cc0_scratch3 : Ref sig .tc).ty.Contents (Elt F)) : sProp 𝕄 :=
  iprop(records (sentOf I) K
    ∗ levAts L lv
    ∗ owes (c : Thread nD τ) (owed0 c) W
    ∗ cred (tallyAt (barCell c) () 6)
    ∗ atPos ER (barCell c) 0 (∅ : Finset (Fin 6)) 0
    ∗ dutyTok ER (barCell (peer 0 c)) 0 (0 : Fin 6)
    ∗ dutyTok ER (barCell (peer 1 c)) 0 (1 : Fin 6)
    ∗ dutyTok ER (barCell (peer 2 c)) 0 (2 : Fin 6)
    ∗ dutyTok ER (barCell (peer 3 c)) 0 (3 : Fin 6)
    ∗ dutyTok ER (barCell (peer 4 c)) 0 (4 : Fin 6)
    ∗ dutyTok ER (barCell (peer 5 c)) 0 (5 : Fin 6)
    ∗ barPay (F := F) 0 (peer 0 c)
    ∗ barPay (F := F) 1 (peer 1 c)
    ∗ barPay (F := F) 2 (peer 2 c)
    ∗ barPay (F := F) 3 (peer 3 c)
    ∗ barPay (F := F) 4 (peer 4 c)
    ∗ barPay (F := F) 5 (peer 5 c)
    ∗ sendRes (F := F) 0 c
    ∗ sendRes (F := F) 1 c
    ∗ sendRes (F := F) 2 c
    ∗ sendRes (F := F) 3 c
    ∗ sendRes (F := F) 4 c
    ∗ sendRes (F := F) 5 c
    ∗ waitRes (F := F) 0 c
    ∗ waitRes (F := F) 1 c
    ∗ waitRes (F := F) 2 c
    ∗ waitRes (F := F) 3 c
    ∗ waitRes (F := F) 4 c
    ∗ waitRes (F := F) 5 c
    ∗ ((Memref.whole cc0_stg0_0).view.loc (c : Thread nD τ) ↦{fullShare} (I c).x)
    ∗ ((Memref.whole cc0_stg1_0).view.loc (c : Thread nD τ) ↦{fullShare} (I c).wq)
    ∗ ((Memref.whole cc0_stg2_0).view.loc (c : Thread nD τ) ↦{fullShare} (I c).k)
    ∗ ((Memref.whole cc0_stg3_0).view.loc (c : Thread nD τ) ↦{fullShare} (I c).v)
    ∗ ((Memref.whole cc0_stg4_0).view.loc (c : Thread nD τ) ↦{fullShare} (I c).wo)
    ∗ ((Memref.whole cc0_stg5_0).view.loc (c : Thread nD τ) ↦{fullShare} f5)
    ∗ ((Memref.whole cc0_scratch0).view.loc (c : Thread nD τ) ↦{fullShare} g0)
    ∗ ((Memref.whole cc0_scratch1).view.loc (c : Thread nD τ) ↦{fullShare} g1)
    ∗ ((Memref.whole cc0_scratch2).view.loc (c : Thread nD τ) ↦{fullShare} g2)
    ∗ ((Memref.whole cc0_scratch3).view.loc (c : Thread nD τ) ↦{fullShare} g3))

/-- What it ends with. -/
def runPost (I : Dev nD → Ins F) (c : Dev nD) : sProp 𝕄 :=
  iprop((∃ W', owes (c : Thread nD τ) 0 W')
    ∗ atPos ER (barCell c) 1 (∅ : Finset (Fin 6)) 0
    ∗ doneRes (F := F) 0 c
    ∗ doneRes (F := F) 1 c
    ∗ doneRes (F := F) 2 c
    ∗ doneRes (F := F) 3 c
    ∗ doneRes (F := F) 4 c
    ∗ doneRes (F := F) 5 c
    ∗ (∃ f, oPts (F := F) 0 c f)
    ∗ (∃ f, mPts (F := F) 0 c f)
    ∗ (∃ f, oPts (F := F) 1 c f)
    ∗ (∃ f, mPts (F := F) 1 c f)
    ∗ (∃ f, oPts (F := F) 2 c f)
    ∗ (∃ f, mPts (F := F) 2 c f)
    ∗ (∃ f, oPts (F := F) 3 c f)
    ∗ (∃ f, mPts (F := F) 3 c f)
    ∗ (∃ f, oPts (F := F) 4 c f)
    ∗ (∃ f, mPts (F := F) 4 c f)
    ∗ (∃ f, oPts (F := F) 5 c f)
    ∗ (∃ f, mPts (F := F) 5 c f)
    ∗ ((Memref.whole cc0_stg0_0).view.loc (c : Thread nD τ) ↦{fullShare} (I c).x)
    ∗ ((Memref.whole cc0_stg1_0).view.loc (c : Thread nD τ) ↦{fullShare} (I c).wq)
    ∗ ((Memref.whole cc0_stg2_0).view.loc (c : Thread nD τ) ↦{fullShare} (I c).k)
    ∗ ((Memref.whole cc0_stg3_0).view.loc (c : Thread nD τ) ↦{fullShare} (I c).v)
    ∗ ((Memref.whole cc0_stg4_0).view.loc (c : Thread nD τ) ↦{fullShare} (I c).wo)
    ∗ ((Memref.whole cc0_stg5_0).view.loc (c : Thread nD τ) ↦{fullShare} (outOf I c))
    ∗ (∃ g, ((Memref.whole cc0_scratch0).view.loc (c : Thread nD τ) ↦{fullShare} g))
    ∗ (∃ g, ((Memref.whole cc0_scratch1).view.loc (c : Thread nD τ) ↦{fullShare} g))
    ∗ (∃ g, ((Memref.whole cc0_scratch2).view.loc (c : Thread nD τ) ↦{fullShare} g))
    ∗ (∃ g, ((Memref.whole cc0_scratch3).view.loc (c : Thread nD τ) ↦{fullShare} g)))

set_option maxHeartbeats 4000000 in
set_option maxRecDepth 65536 in
set_option sl_exec.resultNames true in
/-- The body runs from `runPre` to `runPost`. -/
theorem run_body (I : Dev nD → Ins F) (K : Dev nD × Cell → ℕ) (c : Dev nD) (W : Waits sig Unit) (f5 : (cc0_stg5_0 : Ref sig .tc).ty.Contents (Elt F))
    (g0 : (cc0_scratch0 : Ref sig .tc).ty.Contents (Elt F)) (g1 : (cc0_scratch1 : Ref sig .tc).ty.Contents (Elt F))
    (g2 : (cc0_scratch2 : Ref sig .tc).ty.Contents (Elt F)) (g3 : (cc0_scratch3 : Ref sig .tc).ty.Contents (Elt F)) (Ψ : PUnit → sProp 𝕄) :
    iprop(runPre I K c W f5 g0 g1 g2 g3 ∗ (runPost I c -∗ Ψ ⟨⟩)) ⊢
      wp frame (wpE (defs₀ (F := F)) 𝒱₀ (c : Thread nD τ) none) Set.univ
        (cc0_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9) Ψ := by
  rw [cc0_body_eq_skeleton]; unfold cc0_body_skel runPre owed0
  iintro ⟨⟨#HK, #HL, HO, Hcb, Hab, Hb0, Hb1, Hb2, Hb3, Hb4, Hb5, Hl0, Hl1, Hl2, Hl3, Hl4, Hl5, Hs0, Hs1, Hs2, Hs3, Hs4, Hs5, Hw0, Hw1, Hw2, Hw3, Hw4, Hw5, Hi0, Hi1, Hi2, Hi3, Hi4, Hi5, Hg0, Hg1, Hg2, Hg3⟩, Hk⟩
  sl_exec_parts
  -- the local part is in the buffers
  ihave Hg0 := (Entails.of_eq (congrArg (holds c cc0_scratch0) ((writes_whole_oa g0 (run_body.sl.v278 I c) _ _).trans (show run_body.sl.v278 I c = (part0 I c).o from rfl)))) $$ Hg0
  ihave Hg1 := (Entails.of_eq (congrArg (holds c cc0_scratch1) ((writes_whole_os g1 (run_body.sl.v282 I c) _ _).trans (show run_body.sl.v282 I c = snd0 I c from rfl)))) $$ Hg1
  ihave Hg3 := (Entails.of_eq (congrArg (holds c cc0_scratch3) ((writes_whole_ms g3 (run_body.sl.v294 I c) _ _).trans ((copy_ms _ _ _ _ _).trans (show cols2 (run_body.sl.v286 I c) (run_body.sl.v290 I c) = (part0 I c).ms from rfl))))) $$ Hg3
  ihave Hg2 := (Entails.of_eq (congrArg (holds c cc0_scratch2) (show (maM : Memref sig .tc .vmem S256x8 .f32).view.writes (Elt F) g2 (run_body.sl.Hg2_2 I c) = (part0 I c).ms from writes_ma g2 (run_body.sl.v286 I c) (run_body.sl.v290 I c) []))) $$ Hg2
  -- the six signals
  iapply (signal_run (sentOf I) K c 0 _ (dev1_eq c) (1#32 : BitVec 32).toInt (by decide) (owed1 c + tB 5 c + tB 4 c + tB 3 c + tB 2 c + tB 1 c) W) $$ HK HO Hb0 Hl0
  iintro HO
  sl_exec_parts
  iapply (signal_run (sentOf I) K c 1 _ (dev2_eq c) (1#32 : BitVec 32).toInt (by decide) (owed1 c + tB 5 c + tB 4 c + tB 3 c + tB 2 c) W) $$ HK HO Hb1 Hl1
  iintro HO
  sl_exec_parts
  iapply (signal_run (sentOf I) K c 2 _ (dev3_eq c) (1#32 : BitVec 32).toInt (by decide) (owed1 c + tB 5 c + tB 4 c + tB 3 c) W) $$ HK HO Hb2 Hl2
  iintro HO
  sl_exec_parts
  iapply (signal_run (sentOf I) K c 3 _ (dev4_eq c) (1#32 : BitVec 32).toInt (by decide) (owed1 c + tB 5 c + tB 4 c) W) $$ HK HO Hb3 Hl3
  iintro HO
  sl_exec_parts
  iapply (signal_run (sentOf I) K c 4 _ (dev5_eq c) (1#32 : BitVec 32).toInt (by decide) (owed1 c + tB 5 c) W) $$ HK HO Hb4 Hl4
  iintro HO
  sl_exec_parts
  iapply (signal_run (sentOf I) K c 5 _ (dev6_eq c) (1#32 : BitVec 32).toInt (by decide) (owed1 c) W) $$ HK HO Hb5 Hl5
  iintro HO
  sl_exec_parts
  -- the barrier
  iapply (barrier_run (sentOf I) K c (6#32 : BitVec 32).toInt (by decide) W) $$ HK HL Hcb HO Hab
  iintro ⟨HO, Hab, Hp0, Hp1, Hp2, Hp3, Hp4, Hp5⟩
  unfold owed1
  sl_exec_parts
  -- the first round's transfers
  ihave Hx := (Entails.of_eq (show holds c cc0_scratch1 (snd0 I c) = iprop(oSrc (shr 0) c ((sentOf I).o 0 c) ∗ oSrc (shr 1) c ((sentOf I).o 1 c) ∗ oSrc (shr 2) c ((sentOf I).o 2 c)) from oSrc_split c (snd0 I c))) $$ Hg1
  icases Hx with ⟨Hx0, Hx1, Hx2⟩
  ihave Hy := (Entails.of_eq (show holds c cc0_scratch3 ((part0 I c).ms) = iprop(mSrc (shr 0) c ((sentOf I).ms 0 c) ∗ mSrc (shr 1) c ((sentOf I).ms 1 c) ∗ mSrc (shr 2) c ((sentOf I).ms 2 c)) from mSrc_split c ((part0 I c).ms))) $$ Hg3
  icases Hy with ⟨Hy0, Hy1, Hy2⟩
  unfold sendRes; unfold barPay
  icases Hs0 with ⟨Ht0, Ht1, Ht2, Ht3⟩; icases Hp0 with ⟨Hpo, Hpm⟩
  iapply (sendO_run (sentOf I) K c 0 _ (dev7_eq c) _ rfl _ rfl _ _ rfl rfl (owed2 c + tM 2 c + tO 2 c + tM 1 c + tO 1 c + tM 0 c) _) $$ HK Hx0 Hpo HO Ht0 Ht1
  iintro ⟨Hc0_0, HO⟩
  sl_exec_parts
  iapply (sendM_run (sentOf I) K c 0 _ (dev8_eq c) _ rfl _ rfl _ _ rfl rfl (owed2 c + tM 2 c + tO 2 c + tM 1 c + tO 1 c) _) $$ HK Hy0 Hpm HO Ht2 Ht3
  iintro ⟨Hc2_0, HO⟩
  sl_exec_parts
  icases Hs1 with ⟨Ht0, Ht1, Ht2, Ht3⟩; icases Hp1 with ⟨Hpo, Hpm⟩
  iapply (sendO_run (sentOf I) K c 1 _ (dev9_eq c) _ rfl _ rfl _ _ rfl rfl (owed2 c + tM 2 c + tO 2 c + tM 1 c) _) $$ HK Hx1 Hpo HO Ht0 Ht1
  iintro ⟨Hc0_1, HO⟩
  sl_exec_parts
  iapply (sendM_run (sentOf I) K c 1 _ (dev10_eq c) _ rfl _ rfl _ _ rfl rfl (owed2 c + tM 2 c + tO 2 c) _) $$ HK Hy1 Hpm HO Ht2 Ht3
  iintro ⟨Hc2_1, HO⟩
  sl_exec_parts
  icases Hs2 with ⟨Ht0, Ht1, Ht2, Ht3⟩; icases Hp2 with ⟨Hpo, Hpm⟩
  iapply (sendO_run (sentOf I) K c 2 _ (dev11_eq c) _ rfl _ rfl _ _ rfl rfl (owed2 c + tM 2 c) _) $$ HK Hx2 Hpo HO Ht0 Ht1
  iintro ⟨Hc0_2, HO⟩
  sl_exec_parts
  iapply (sendM_run (sentOf I) K c 2 _ (dev12_eq c) _ rfl _ rfl _ _ rfl rfl (owed2 c) _) $$ HK Hy2 Hpm HO Ht2 Ht3
  iintro ⟨Hc2_2, HO⟩
  sl_exec_parts
  unfold waitRes
  icases Hw0 with ⟨Ha0, Ha1, Ha2, Ha3, Hc1, Hc3⟩
  iapply (wait_run (sentOf I) K c 0 0 No rfl _ rfl (oSlot 0) osM rfl (owed2 c) (mayWait_r0 c 0 0 (by decide)) _) $$ HK HL Hc0_0 HO Ha0
  iintro ⟨HO, Hd0_0, Hx0⟩
  sl_exec_parts
  iapply (wait_run (sentOf I) K c 0 1 No rfl _ rfl osM (oSlot 0) (oSlot_credit 0) (owed2 c) (mayWait_r0 c 1 0 (by decide)) _) $$ HK HL Hc1 HO Ha1
  iintro ⟨HO, Hd1_0, Ho0⟩
  ihave Ho0 := (Entails.of_eq (show xferPay (sentOf I) 1 0 c = landsO c (Rect.unit (s := S6x256x256) ![0, 0, 0] S1x256x256.size (oRect_inb 0)) ((recv0 I c).o 0) from rfl)) $$ Ho0
  sl_exec_parts
  iapply (wait_run (sentOf I) K c 0 2 Nm rfl _ rfl (mSlot 0) msM rfl (owed2 c) (mayWait_r0 c 2 0 (by decide)) _) $$ HK HL Hc2_0 HO Ha2
  iintro ⟨HO, Hd2_0, Hy0⟩
  sl_exec_parts
  iapply (wait_run (sentOf I) K c 0 3 Nm rfl _ rfl msM (mSlot 0) (mSlot_credit 0) (owed2 c) (mayWait_r0 c 3 0 (by decide)) _) $$ HK HL Hc3 HO Ha3
  iintro ⟨HO, Hd3_0, Hm0⟩
  ihave Hm0 := (Entails.of_eq (show xferPay (sentOf I) 3 0 c = landsM c (Rect.unit (s := S6x256x8) ![0, 0, 0] S1x256x8.size (mRect_inb 0)) ((recv0 I c).ms 0) from rfl)) $$ Hm0
  sl_exec_parts
  icases Hw1 with ⟨Ha0, Ha1, Ha2, Ha3, Hc1, Hc3⟩
  iapply (wait_run (sentOf I) K c 1 0 No rfl _ rfl (oSlot 1) osM rfl (owed2 c) (mayWait_r0 c 0 1 (by decide)) _) $$ HK HL Hc0_1 HO Ha0
  iintro ⟨HO, Hd0_1, Hx1⟩
  sl_exec_parts
  iapply (wait_run (sentOf I) K c 1 1 No rfl _ rfl osM (oSlot 1) (oSlot_credit 1) (owed2 c) (mayWait_r0 c 1 1 (by decide)) _) $$ HK HL Hc1 HO Ha1
  iintro ⟨HO, Hd1_1, Ho1⟩
  ihave Ho1 := (Entails.of_eq (show xferPay (sentOf I) 1 1 c = landsO c (Rect.unit (s := S6x256x256) ![1, 0, 0] S1x256x256.size (oRect_inb 1)) ((recv0 I c).o 1) from rfl)) $$ Ho1
  sl_exec_parts
  iapply (wait_run (sentOf I) K c 1 2 Nm rfl _ rfl (mSlot 1) msM rfl (owed2 c) (mayWait_r0 c 2 1 (by decide)) _) $$ HK HL Hc2_1 HO Ha2
  iintro ⟨HO, Hd2_1, Hy1⟩
  sl_exec_parts
  iapply (wait_run (sentOf I) K c 1 3 Nm rfl _ rfl msM (mSlot 1) (mSlot_credit 1) (owed2 c) (mayWait_r0 c 3 1 (by decide)) _) $$ HK HL Hc3 HO Ha3
  iintro ⟨HO, Hd3_1, Hm1⟩
  ihave Hm1 := (Entails.of_eq (show xferPay (sentOf I) 3 1 c = landsM c (Rect.unit (s := S6x256x8) ![1, 0, 0] S1x256x8.size (mRect_inb 1)) ((recv0 I c).ms 1) from rfl)) $$ Hm1
  sl_exec_parts
  icases Hw2 with ⟨Ha0, Ha1, Ha2, Ha3, Hc1, Hc3⟩
  iapply (wait_run (sentOf I) K c 2 0 No rfl _ rfl (oSlot 2) osM rfl (owed2 c) (mayWait_r0 c 0 2 (by decide)) _) $$ HK HL Hc0_2 HO Ha0
  iintro ⟨HO, Hd0_2, Hx2⟩
  sl_exec_parts
  iapply (wait_run (sentOf I) K c 2 1 No rfl _ rfl osM (oSlot 2) (oSlot_credit 2) (owed2 c) (mayWait_r0 c 1 2 (by decide)) _) $$ HK HL Hc1 HO Ha1
  iintro ⟨HO, Hd1_2, Ho2⟩
  ihave Ho2 := (Entails.of_eq (show xferPay (sentOf I) 1 2 c = landsO c (Rect.unit (s := S6x256x256) ![2, 0, 0] S1x256x256.size (oRect_inb 2)) ((recv0 I c).o 2) from rfl)) $$ Ho2
  sl_exec_parts
  iapply (wait_run (sentOf I) K c 2 2 Nm rfl _ rfl (mSlot 2) msM rfl (owed2 c) (mayWait_r0 c 2 2 (by decide)) _) $$ HK HL Hc2_2 HO Ha2
  iintro ⟨HO, Hd2_2, Hy2⟩
  sl_exec_parts
  iapply (wait_run (sentOf I) K c 2 3 Nm rfl _ rfl msM (mSlot 2) (mSlot_credit 2) (owed2 c) (mayWait_r0 c 3 2 (by decide)) _) $$ HK HL Hc3 HO Ha3
  iintro ⟨HO, Hd3_2, Hm2⟩
  ihave Hm2 := (Entails.of_eq (show xferPay (sentOf I) 3 2 c = landsM c (Rect.unit (s := S6x256x8) ![2, 0, 0] S1x256x8.size (mRect_inb 2)) ((recv0 I c).ms 2) from rfl)) $$ Hm2
  ihave Hg1 := (Entails.of_eq (show iprop(xferPay (sentOf I) 0 0 c ∗ xferPay (sentOf I) 0 1 c ∗ xferPay (sentOf I) 0 2 c) = holds c cc0_scratch1 (snd0 I c) from (oSrc_split c (snd0 I c)).symm)) $$ [Hx0 Hx1 Hx2]
  · isplitl [Hx0]; · iexact Hx0
    isplitl [Hx1] <;> iassumption
  ihave Hg3 := (Entails.of_eq (show iprop(xferPay (sentOf I) 2 0 c ∗ xferPay (sentOf I) 2 1 c ∗ xferPay (sentOf I) 2 2 c) = holds c cc0_scratch3 ((part0 I c).ms) from (mSrc_split c ((part0 I c).ms)).symm)) $$ [Hy0 Hy1 Hy2]
  · isplitl [Hy0]; · iexact Hy0
    isplitl [Hy1] <;> iassumption
  -- the first merge
  sl_exec_parts
  ihave Hg0 := (Entails.of_eq (congrArg (holds c cc0_scratch0) (show (oaM : Memref sig .tc .vmem S256x256 .f32).view.writes (Elt F) (part0 I c).o (run_body.sl.Hg0_4 I c) = (part1 I c).o
    from writes_oa (part0 I c).o (fun h => shapeCast S256x64 (mgO (part0 I c) (recv0 I c) sl0 h) shapeCasts_S256x64_S256x64) []))) $$ Hg0
  ihave Hg2 := (Entails.of_eq (congrArg (holds c cc0_scratch2) (show (maM : Memref sig .tc .vmem S256x8 .f32).view.writes (Elt F) (part0 I c).ms (run_body.sl.Hg2_2_1 I c) = (part1 I c).ms
    from writes_ma (part0 I c).ms (shapeCast S256x4 (mgM (part0 I c) (recv0 I c) sl0) shapeCasts_S256x4_S256x4) (shapeCast S256x4 (mgS (part0 I c) (recv0 I c) sl0) shapeCasts_S256x4_S256x4) []))) $$ Hg2
  ihave Hg1 := (Entails.of_eq (congrArg (holds c cc0_scratch1) (show (osM : Memref sig .tc .vmem S256x256 .bf16).view.writes (Elt F) (snd0 I c) (run_body.sl.Hg1_4 I c) = snd1 I c
    from writes_os (snd0 I c) (fun h => shapeCast S256x64 (truncf .bf16 (mgO (part0 I c) (recv0 I c) sl0 h) bitsLt_bf16_f32) shapeCasts_S256x64_S256x64) []))) $$ Hg1
  ihave Hg3 := (Entails.of_eq (congrArg (holds c cc0_scratch3) ((writes_whole_ms (part0 I c).ms (run_body.sl.v594 I c) _ _).trans ((copy_ms _ _ _ _ _).trans
    (show cols2 (shapeCast S256x4 (mgM (part0 I c) (recv0 I c) sl0) shapeCasts_S256x4_S256x4) (shapeCast S256x4 (mgS (part0 I c) (recv0 I c) sl0) shapeCasts_S256x4_S256x4) = (part1 I c).ms from rfl))))) $$ Hg3
  -- the second round's transfers
  ihave Hx := (Entails.of_eq (show holds c cc0_scratch1 (snd1 I c) = iprop(oSrc (shr 3) c ((sentOf I).o 3 c) ∗ oSrc (shr 4) c ((sentOf I).o 4 c) ∗ oSrc (shr 5) c ((sentOf I).o 5 c)) from oSrc_split c (snd1 I c))) $$ Hg1
  icases Hx with ⟨Hx0, Hx1, Hx2⟩
  ihave Hy := (Entails.of_eq (show holds c cc0_scratch3 ((part1 I c).ms) = iprop(mSrc (shr 3) c ((sentOf I).ms 3 c) ∗ mSrc (shr 4) c ((sentOf I).ms 4 c) ∗ mSrc (shr 5) c ((sentOf I).ms 5 c)) from mSrc_split c ((part1 I c).ms))) $$ Hg3
  icases Hy with ⟨Hy0, Hy1, Hy2⟩
  unfold owed2
  icases Hs3 with ⟨Ht0, Ht1, Ht2, Ht3⟩; icases Hp3 with ⟨Hpo, Hpm⟩
  iapply (sendO_run (sentOf I) K c 3 _ (dev13_eq c) _ rfl _ rfl _ _ rfl rfl (0 + tM 5 c + tO 5 c + tM 4 c + tO 4 c + tM 3 c) _) $$ HK Hx0 Hpo HO Ht0 Ht1
  iintro ⟨Hc0_3, HO⟩
  sl_exec_parts
  iapply (sendM_run (sentOf I) K c 3 _ (dev14_eq c) _ rfl _ rfl _ _ rfl rfl (0 + tM 5 c + tO 5 c + tM 4 c + tO 4 c) _) $$ HK Hy0 Hpm HO Ht2 Ht3
  iintro ⟨Hc2_3, HO⟩
  sl_exec_parts
  icases Hs4 with ⟨Ht0, Ht1, Ht2, Ht3⟩; icases Hp4 with ⟨Hpo, Hpm⟩
  iapply (sendO_run (sentOf I) K c 4 _ (dev15_eq c) _ rfl _ rfl _ _ rfl rfl (0 + tM 5 c + tO 5 c + tM 4 c) _) $$ HK Hx1 Hpo HO Ht0 Ht1
  iintro ⟨Hc0_4, HO⟩
  sl_exec_parts
  iapply (sendM_run (sentOf I) K c 4 _ (dev16_eq c) _ rfl _ rfl _ _ rfl rfl (0 + tM 5 c + tO 5 c) _) $$ HK Hy1 Hpm HO Ht2 Ht3
  iintro ⟨Hc2_4, HO⟩
  sl_exec_parts
  icases Hs5 with ⟨Ht0, Ht1, Ht2, Ht3⟩; icases Hp5 with ⟨Hpo, Hpm⟩
  iapply (sendO_run (sentOf I) K c 5 _ (dev17_eq c) _ rfl _ rfl _ _ rfl rfl (0 + tM 5 c) _) $$ HK Hx2 Hpo HO Ht0 Ht1
  iintro ⟨Hc0_5, HO⟩
  sl_exec_parts
  iapply (sendM_run (sentOf I) K c 5 _ (dev18_eq c) _ rfl _ rfl _ _ rfl rfl (0) _) $$ HK Hy2 Hpm HO Ht2 Ht3
  iintro ⟨Hc2_5, HO⟩
  sl_exec_parts
  icases Hw3 with ⟨Ha0, Ha1, Ha2, Ha3, Hc1, Hc3⟩
  iapply (wait_run (sentOf I) K c 3 0 No rfl _ rfl (oSlot 3) osM rfl 0 (mayWait_r1 c 0 3) _) $$ HK HL Hc0_3 HO Ha0
  iintro ⟨HO, Hd0_3, Hx0⟩
  sl_exec_parts
  iapply (wait_run (sentOf I) K c 3 1 No rfl _ rfl osM (oSlot 3) (oSlot_credit 3) 0 (mayWait_r1 c 1 3) _) $$ HK HL Hc1 HO Ha1
  iintro ⟨HO, Hd1_3, Ho3⟩
  ihave Ho3 := (Entails.of_eq (show xferPay (sentOf I) 1 3 c = landsO c (Rect.unit (s := S6x256x256) ![3, 0, 0] S1x256x256.size (oRect_inb 3)) ((recv1 I c).o 0) from rfl)) $$ Ho3
  sl_exec_parts
  iapply (wait_run (sentOf I) K c 3 2 Nm rfl _ rfl (mSlot 3) msM rfl 0 (mayWait_r1 c 2 3) _) $$ HK HL Hc2_3 HO Ha2
  iintro ⟨HO, Hd2_3, Hy0⟩
  sl_exec_parts
  iapply (wait_run (sentOf I) K c 3 3 Nm rfl _ rfl msM (mSlot 3) (mSlot_credit 3) 0 (mayWait_r1 c 3 3) _) $$ HK HL Hc3 HO Ha3
  iintro ⟨HO, Hd3_3, Hm3⟩
  ihave Hm3 := (Entails.of_eq (show xferPay (sentOf I) 3 3 c = landsM c (Rect.unit (s := S6x256x8) ![3, 0, 0] S1x256x8.size (mRect_inb 3)) ((recv1 I c).ms 0) from rfl)) $$ Hm3
  sl_exec_parts
  icases Hw4 with ⟨Ha0, Ha1, Ha2, Ha3, Hc1, Hc3⟩
  iapply (wait_run (sentOf I) K c 4 0 No rfl _ rfl (oSlot 4) osM rfl 0 (mayWait_r1 c 0 4) _) $$ HK HL Hc0_4 HO Ha0
  iintro ⟨HO, Hd0_4, Hx1⟩
  sl_exec_parts
  iapply (wait_run (sentOf I) K c 4 1 No rfl _ rfl osM (oSlot 4) (oSlot_credit 4) 0 (mayWait_r1 c 1 4) _) $$ HK HL Hc1 HO Ha1
  iintro ⟨HO, Hd1_4, Ho4⟩
  ihave Ho4 := (Entails.of_eq (show xferPay (sentOf I) 1 4 c = landsO c (Rect.unit (s := S6x256x256) ![4, 0, 0] S1x256x256.size (oRect_inb 4)) ((recv1 I c).o 1) from rfl)) $$ Ho4
  sl_exec_parts
  iapply (wait_run (sentOf I) K c 4 2 Nm rfl _ rfl (mSlot 4) msM rfl 0 (mayWait_r1 c 2 4) _) $$ HK HL Hc2_4 HO Ha2
  iintro ⟨HO, Hd2_4, Hy1⟩
  sl_exec_parts
  iapply (wait_run (sentOf I) K c 4 3 Nm rfl _ rfl msM (mSlot 4) (mSlot_credit 4) 0 (mayWait_r1 c 3 4) _) $$ HK HL Hc3 HO Ha3
  iintro ⟨HO, Hd3_4, Hm4⟩
  ihave Hm4 := (Entails.of_eq (show xferPay (sentOf I) 3 4 c = landsM c (Rect.unit (s := S6x256x8) ![4, 0, 0] S1x256x8.size (mRect_inb 4)) ((recv1 I c).ms 1) from rfl)) $$ Hm4
  sl_exec_parts
  icases Hw5 with ⟨Ha0, Ha1, Ha2, Ha3, Hc1, Hc3⟩
  iapply (wait_run (sentOf I) K c 5 0 No rfl _ rfl (oSlot 5) osM rfl 0 (mayWait_r1 c 0 5) _) $$ HK HL Hc0_5 HO Ha0
  iintro ⟨HO, Hd0_5, Hx2⟩
  sl_exec_parts
  iapply (wait_run (sentOf I) K c 5 1 No rfl _ rfl osM (oSlot 5) (oSlot_credit 5) 0 (mayWait_r1 c 1 5) _) $$ HK HL Hc1 HO Ha1
  iintro ⟨HO, Hd1_5, Ho5⟩
  ihave Ho5 := (Entails.of_eq (show xferPay (sentOf I) 1 5 c = landsO c (Rect.unit (s := S6x256x256) ![5, 0, 0] S1x256x256.size (oRect_inb 5)) ((recv1 I c).o 2) from rfl)) $$ Ho5
  sl_exec_parts
  iapply (wait_run (sentOf I) K c 5 2 Nm rfl _ rfl (mSlot 5) msM rfl 0 (mayWait_r1 c 2 5) _) $$ HK HL Hc2_5 HO Ha2
  iintro ⟨HO, Hd2_5, Hy2⟩
  sl_exec_parts
  iapply (wait_run (sentOf I) K c 5 3 Nm rfl _ rfl msM (mSlot 5) (mSlot_credit 5) 0 (mayWait_r1 c 3 5) _) $$ HK HL Hc3 HO Ha3
  iintro ⟨HO, Hd3_5, Hm5⟩
  ihave Hm5 := (Entails.of_eq (show xferPay (sentOf I) 3 5 c = landsM c (Rect.unit (s := S6x256x8) ![5, 0, 0] S1x256x8.size (mRect_inb 5)) ((recv1 I c).ms 2) from rfl)) $$ Hm5
  ihave Hg1 := (Entails.of_eq (show iprop(xferPay (sentOf I) 0 3 c ∗ xferPay (sentOf I) 0 4 c ∗ xferPay (sentOf I) 0 5 c) = holds c cc0_scratch1 (snd1 I c) from (oSrc_split c (snd1 I c)).symm)) $$ [Hx0 Hx1 Hx2]
  · isplitl [Hx0]; · iexact Hx0
    isplitl [Hx1] <;> iassumption
  ihave Hg3 := (Entails.of_eq (show iprop(xferPay (sentOf I) 2 3 c ∗ xferPay (sentOf I) 2 4 c ∗ xferPay (sentOf I) 2 5 c) = holds c cc0_scratch3 ((part1 I c).ms) from (mSrc_split c ((part1 I c).ms)).symm)) $$ [Hy0 Hy1 Hy2]
  · isplitl [Hy0]; · iexact Hy0
    isplitl [Hy1] <;> iassumption
  -- the second merge and the result
  sl_exec_parts
  have ho : ∀ g, (oaM : Memref sig .tc .vmem S256x256 .f32).view.writes (Elt F) g (run_body.sl.Hg0_4_1 I c) = (part2 I c).o := fun g =>
    writes_oa g (fun h => shapeCast S256x64 (mgO (part1 I c) (recv1 I c) sl1 h) shapeCasts_S256x64_S256x64) []
  have hm : ∀ g, (maM : Memref sig .tc .vmem S256x8 .f32).view.writes (Elt F) g (run_body.sl.Hg2_2_2 I c) = (part2 I c).ms := fun g =>
    writes_ma g (shapeCast S256x4 (mgM (part1 I c) (recv1 I c) sl1) shapeCasts_S256x4_S256x4) (shapeCast S256x4 (mgS (part1 I c) (recv1 I c) sl1) shapeCasts_S256x4_S256x4) []
  have hz : k0_pay1 (run_body.sl.v880 I c) = outOf I c := by
    show k0_pay1 (k0_pay115
      ((maM : Memref sig .tc .vmem S256x8 .f32).view.readAt (Elt F) (Rect.unit (s := S256x8) ![0, 4] S256x4.size (stat_inb 1)).toLoadRect
        ((maM : Memref sig .tc .vmem S256x8 .f32).view.writes (Elt F) (maM : Memref sig .tc .vmem S256x8 .f32).view.junk (run_body.sl.Hg2_2_2 I c)))
      ((oaM : Memref sig .tc .vmem S256x256 .f32).view.readAt (Elt F) (Rect.unit (s := S256x256) ![0, 0] S256x64.size (blk_inb 0)).toLoadRect
        ((oaM : Memref sig .tc .vmem S256x256 .f32).view.writes (Elt F) (oaM : Memref sig .tc .vmem S256x256 .f32).view.junk (run_body.sl.Hg0_4_1 I c)))
      ((oaM : Memref sig .tc .vmem S256x256 .f32).view.readAt (Elt F) (Rect.unit (s := S256x256) ![0, 64] S256x64.size (blk_inb 1)).toLoadRect
        ((oaM : Memref sig .tc .vmem S256x256 .f32).view.writes (Elt F) (oaM : Memref sig .tc .vmem S256x256 .f32).view.junk (run_body.sl.Hg0_4_1 I c)))
      ((oaM : Memref sig .tc .vmem S256x256 .f32).view.readAt (Elt F) (Rect.unit (s := S256x256) ![0, 128] S256x64.size (blk_inb 2)).toLoadRect
        ((oaM : Memref sig .tc .vmem S256x256 .f32).view.writes (Elt F) (oaM : Memref sig .tc .vmem S256x256 .f32).view.junk (run_body.sl.Hg0_4_1 I c)))
      ((oaM : Memref sig .tc .vmem S256x256 .f32).view.readAt (Elt F) (Rect.unit (s := S256x256) ![0, 192] S256x64.size (blk_inb 3)).toLoadRect
        ((oaM : Memref sig .tc .vmem S256x256 .f32).view.writes (Elt F) (oaM : Memref sig .tc .vmem S256x256 .f32).view.junk (run_body.sl.Hg0_4_1 I c)))
      ((Memref.whole cc0_stg4_0 : Memref sig .tc .vmem S256x512 .bf16).view.readAt (Elt F)
        (Rect.unit (s := S256x512) ![0, 0] S256x512.size inb_S256x512_S256x512_0_0).toLoadRect (I c).wo)) = _
    rw [hm, ho]; rfl
  ihave Hi5 := (Entails.of_eq (congrArg (holds c cc0_stg5_0) ((writes_whole_out f5 (k0_pay1 (run_body.sl.v880 I c)) _ []).trans hz))) $$ Hi5
  ihave Hg0 := (Entails.of_eq (congrArg (holds c cc0_scratch0) (ho (part1 I c).o))) $$ Hg0
  ihave Hg2 := (Entails.of_eq (congrArg (holds c cc0_scratch2) (hm (part1 I c).ms))) $$ Hg2
  rw [wp_ret]; imodintro
  iapply Hk
  unfold runPost doneRes
  isplitl [HO]
  · iexists _; iexact HO
  isplitl [Hab]
  · iexact Hab
  isplitl [Hd0_0 Hd1_0 Hd2_0 Hd3_0]
  · isplitl [Hd0_0]; · iexact Hd0_0
    isplitl [Hd1_0]; · iexact Hd1_0
    isplitl [Hd2_0] <;> iassumption
  isplitl [Hd0_1 Hd1_1 Hd2_1 Hd3_1]
  · isplitl [Hd0_1]; · iexact Hd0_1
    isplitl [Hd1_1]; · iexact Hd1_1
    isplitl [Hd2_1] <;> iassumption
  isplitl [Hd0_2 Hd1_2 Hd2_2 Hd3_2]
  · isplitl [Hd0_2]; · iexact Hd0_2
    isplitl [Hd1_2]; · iexact Hd1_2
    isplitl [Hd2_2] <;> iassumption
  isplitl [Hd0_3 Hd1_3 Hd2_3 Hd3_3]
  · isplitl [Hd0_3]; · iexact Hd0_3
    isplitl [Hd1_3]; · iexact Hd1_3
    isplitl [Hd2_3] <;> iassumption
  isplitl [Hd0_4 Hd1_4 Hd2_4 Hd3_4]
  · isplitl [Hd0_4]; · iexact Hd0_4
    isplitl [Hd1_4]; · iexact Hd1_4
    isplitl [Hd2_4] <;> iassumption
  isplitl [Hd0_5 Hd1_5 Hd2_5 Hd3_5]
  · isplitl [Hd0_5]; · iexact Hd0_5
    isplitl [Hd1_5]; · iexact Hd1_5
    isplitl [Hd2_5] <;> iassumption
  isplitl [Ho0]
  · iexists ((recv0 I c).o 0)
    iapply (Entails.of_eq (show landsO c (Rect.unit (s := S6x256x256) ![0, 0, 0] S1x256x256.size (oRect_inb 0)) ((recv0 I c).o 0) = oPts 0 c ((recv0 I c).o 0) from rfl)); iexact Ho0
  isplitl [Hm0]
  · iexists ((recv0 I c).ms 0)
    iapply (Entails.of_eq (show landsM c (Rect.unit (s := S6x256x8) ![0, 0, 0] S1x256x8.size (mRect_inb 0)) ((recv0 I c).ms 0) = mPts 0 c ((recv0 I c).ms 0) from rfl)); iexact Hm0
  isplitl [Ho1]
  · iexists ((recv0 I c).o 1)
    iapply (Entails.of_eq (show landsO c (Rect.unit (s := S6x256x256) ![1, 0, 0] S1x256x256.size (oRect_inb 1)) ((recv0 I c).o 1) = oPts 1 c ((recv0 I c).o 1) from rfl)); iexact Ho1
  isplitl [Hm1]
  · iexists ((recv0 I c).ms 1)
    iapply (Entails.of_eq (show landsM c (Rect.unit (s := S6x256x8) ![1, 0, 0] S1x256x8.size (mRect_inb 1)) ((recv0 I c).ms 1) = mPts 1 c ((recv0 I c).ms 1) from rfl)); iexact Hm1
  isplitl [Ho2]
  · iexists ((recv0 I c).o 2)
    iapply (Entails.of_eq (show landsO c (Rect.unit (s := S6x256x256) ![2, 0, 0] S1x256x256.size (oRect_inb 2)) ((recv0 I c).o 2) = oPts 2 c ((recv0 I c).o 2) from rfl)); iexact Ho2
  isplitl [Hm2]
  · iexists ((recv0 I c).ms 2)
    iapply (Entails.of_eq (show landsM c (Rect.unit (s := S6x256x8) ![2, 0, 0] S1x256x8.size (mRect_inb 2)) ((recv0 I c).ms 2) = mPts 2 c ((recv0 I c).ms 2) from rfl)); iexact Hm2
  isplitl [Ho3]
  · iexists ((recv1 I c).o 0)
    iapply (Entails.of_eq (show landsO c (Rect.unit (s := S6x256x256) ![3, 0, 0] S1x256x256.size (oRect_inb 3)) ((recv1 I c).o 0) = oPts 3 c ((recv1 I c).o 0) from rfl)); iexact Ho3
  isplitl [Hm3]
  · iexists ((recv1 I c).ms 0)
    iapply (Entails.of_eq (show landsM c (Rect.unit (s := S6x256x8) ![3, 0, 0] S1x256x8.size (mRect_inb 3)) ((recv1 I c).ms 0) = mPts 3 c ((recv1 I c).ms 0) from rfl)); iexact Hm3
  isplitl [Ho4]
  · iexists ((recv1 I c).o 1)
    iapply (Entails.of_eq (show landsO c (Rect.unit (s := S6x256x256) ![4, 0, 0] S1x256x256.size (oRect_inb 4)) ((recv1 I c).o 1) = oPts 4 c ((recv1 I c).o 1) from rfl)); iexact Ho4
  isplitl [Hm4]
  · iexists ((recv1 I c).ms 1)
    iapply (Entails.of_eq (show landsM c (Rect.unit (s := S6x256x8) ![4, 0, 0] S1x256x8.size (mRect_inb 4)) ((recv1 I c).ms 1) = mPts 4 c ((recv1 I c).ms 1) from rfl)); iexact Hm4
  isplitl [Ho5]
  · iexists ((recv1 I c).o 2)
    iapply (Entails.of_eq (show landsO c (Rect.unit (s := S6x256x256) ![5, 0, 0] S1x256x256.size (oRect_inb 5)) ((recv1 I c).o 2) = oPts 5 c ((recv1 I c).o 2) from rfl)); iexact Ho5
  isplitl [Hm5]
  · iexists ((recv1 I c).ms 2)
    iapply (Entails.of_eq (show landsM c (Rect.unit (s := S6x256x8) ![5, 0, 0] S1x256x8.size (mRect_inb 5)) ((recv1 I c).ms 2) = mPts 5 c ((recv1 I c).ms 2) from rfl)); iexact Hm5
  isplitl [Hi0]
  · iexact Hi0
  isplitl [Hi1]
  · iexact Hi1
  isplitl [Hi2]
  · iexact Hi2
  isplitl [Hi3]
  · iexact Hi3
  isplitl [Hi4]
  · iexact Hi4
  isplitl [Hi5]
  · iexact Hi5
  isplitl [Hg0]
  · iexists _; iexact Hg0
  isplitl [Hg1]
  · iexists _; iexact Hg1
  isplitl [Hg2]
  · iexists _; iexact Hg2
  iexists _; iexact Hg3

end Cert.Exchange

end
-- ==== Proof.Launch.lean ====
/-
# The launch

The argument arrays of each device as the kernel finds them staged, one device's run as the pipeline's body, and the run of
the whole program: every device's result array ends at `outOf`, its arguments unchanged, every semaphore counter at zero.
-/
module

public import proofs.«01_k».proof.Proof.Ghost
public import proofs.«01_k».proof.Proof.Run
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## The landing buffers, slot by slot -/

/-- Both landing buffers of device `c`, whole. -/
def landing (c : Dev nD) : sProp 𝕄 :=
  iprop((∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f))

theorem oSlots (c : Dev nD) (f : Buf (Elt F) ((c : Thread nD τ).loc cc0_scratch4)) :
    (((c : Thread nD τ).loc cc0_scratch4) ↦{fullShare} f : sProp 𝕄) = bigSep Finset.univ fun j : Fin 6 => oPts j c f := by
  have h := pointsTo_biUnion (Ix := Unit) (Name := ℕ) (U := UU) (Lvl := ℕ) (ℓ := ((c : Thread nD τ).loc cc0_scratch4)) (q := fullShare) (f := f) (Finset.univ : Finset (Fin 6)) oSet oSet_disj
  rw [oSet_cover] at h
  exact h
theorem mSlots (c : Dev nD) (f : Buf (Elt F) ((c : Thread nD τ).loc cc0_scratch5)) :
    (((c : Thread nD τ).loc cc0_scratch5) ↦{fullShare} f : sProp 𝕄) = bigSep Finset.univ fun j : Fin 6 => mPts j c f := by
  have h := pointsTo_biUnion (Ix := Unit) (Name := ℕ) (U := UU) (Lvl := ℕ) (ℓ := ((c : Thread nD τ).loc cc0_scratch5)) (q := fullShare) (f := f) (Finset.univ : Finset (Fin 6)) mSet mSet_disj
  rw [mSet_cover] at h
  exact h

theorem barPay_own (j : Fin 6) (c : Dev nD) : barPay (F := F) j (peer j c) = iprop((∃ f, oPts j c f) ∗ (∃ f, mPts j c f)) := by
  unfold barPay; rw [peer_peer]

theorem oEx (j : Fin 6) (c : Dev nD) (f : (cc0_scratch4 : Ref sig .tc).ty.Contents (Elt F)) : oPts j c f ⊢ (iprop(∃ f, oPts j c f) : sProp 𝕄) := by
  iintro H; iexists f; iexact H
theorem mEx (j : Fin 6) (c : Dev nD) (f : (cc0_scratch5 : Ref sig .tc).ty.Contents (Elt F)) : mPts j c f ⊢ (iprop(∃ f, mPts j c f) : sProp 𝕄) := by
  iintro H; iexists f; iexact H

/-- The landing buffers as the six partners' slots. -/
theorem landing_split (c : Dev nD) : (landing c : sProp 𝕄) ⊢ bigSep Finset.univ fun j : Fin 6 => barPay (F := F) j (peer j c) := by
  have ho (f : Buf (Elt F) ((c : Thread nD τ).loc cc0_scratch4)) : (((c : Thread nD τ).loc cc0_scratch4) ↦{fullShare} f : sProp 𝕄)
      ⊢ bigSep Finset.univ fun j : Fin 6 => iprop(∃ f, oPts (F := F) j c f) := by
    rw [oSlots]; exact bigSep_mono fun j _ => oEx j c f
  have hm (f : Buf (Elt F) ((c : Thread nD τ).loc cc0_scratch5)) : (((c : Thread nD τ).loc cc0_scratch5) ↦{fullShare} f : sProp 𝕄)
      ⊢ bigSep Finset.univ fun j : Fin 6 => iprop(∃ f, mPts (F := F) j c f) := by
    rw [mSlots]; exact bigSep_mono fun j _ => mEx j c f
  rw [bigSep_congr (s := Finset.univ) (fun (j : Fin 6) _ => barPay_own j c), bigSep_sep']
  unfold landing
  iintro ⟨⟨%f, Ho⟩, ⟨%g, Hm⟩⟩
  isplitl [Ho]
  · iapply (ho f); iexact Ho
  · iapply (hm g); iexact Hm

theorem oSlots_join (c : Dev nD) : (bigSep Finset.univ fun j : Fin 6 => iprop(∃ f, oPts (F := F) j c f))
    ⊢ (iprop(∃ f : Buf (Elt F) ((c : Thread nD τ).loc cc0_scratch4), ((c : Thread nD τ).loc cc0_scratch4) ↦{fullShare} f) : sProp 𝕄) := by
  have hj (fs : Fin 6 → Buf (Elt F) ((c : Thread nD τ).loc cc0_scratch4)) : (bigSep Finset.univ fun j : Fin 6 => oPts (F := F) j c (fs j))
      ⊢ (iprop(∃ f : Buf (Elt F) ((c : Thread nD τ).loc cc0_scratch4), ((c : Thread nD τ).loc cc0_scratch4) ↦{fullShare} f) : sProp 𝕄) := by
    have h := pointsTo_biUnion_join (Ix := Unit) (Name := ℕ) (U := UU) (Lvl := ℕ) (Val := Elt F) (ℓ := ((c : Thread nD τ).loc cc0_scratch4)) (q := fullShare) (Finset.univ : Finset (Fin 6)) oSet fs (fs 0) oSet_disj
    rw [oSet_cover] at h
    refine BIBase.Entails.trans h ?_
    iintro ⟨%g, -, H⟩
    iexists g; iexact H
  have hp := BI.bigSep_exists_pi (Finset.univ : Finset (Fin 6)) (fun j (f : Buf (Elt F) ((c : Thread nD τ).loc cc0_scratch4)) => (oPts (F := F) j c f : sProp 𝕄))
  refine BIBase.Entails.trans hp ?_
  iintro ⟨%fs, H⟩
  iapply (hj fs); iexact H
theorem mSlots_join (c : Dev nD) : (bigSep Finset.univ fun j : Fin 6 => iprop(∃ f, mPts (F := F) j c f))
    ⊢ (iprop(∃ f : Buf (Elt F) ((c : Thread nD τ).loc cc0_scratch5), ((c : Thread nD τ).loc cc0_scratch5) ↦{fullShare} f) : sProp 𝕄) := by
  have hj (fs : Fin 6 → Buf (Elt F) ((c : Thread nD τ).loc cc0_scratch5)) : (bigSep Finset.univ fun j : Fin 6 => mPts (F := F) j c (fs j))
      ⊢ (iprop(∃ f : Buf (Elt F) ((c : Thread nD τ).loc cc0_scratch5), ((c : Thread nD τ).loc cc0_scratch5) ↦{fullShare} f) : sProp 𝕄) := by
    have h := pointsTo_biUnion_join (Ix := Unit) (Name := ℕ) (U := UU) (Lvl := ℕ) (Val := Elt F) (ℓ := ((c : Thread nD τ).loc cc0_scratch5)) (q := fullShare) (Finset.univ : Finset (Fin 6)) mSet fs (fs 0) mSet_disj
    rw [mSet_cover] at h
    refine BIBase.Entails.trans h ?_
    iintro ⟨%g, -, H⟩
    iexists g; iexact H
  have hp := BI.bigSep_exists_pi (Finset.univ : Finset (Fin 6)) (fun j (f : Buf (Elt F) ((c : Thread nD τ).loc cc0_scratch5)) => (mPts (F := F) j c f : sProp 𝕄))
  refine BIBase.Entails.trans hp ?_
  iintro ⟨%fs, H⟩
  iapply (hj fs); iexact H

/-! ## The cells close -/

/-- A device's cells at zero. -/
def zeros (c : Dev nD) : sProp 𝕄 := bigSep Finset.univ fun k : Cell => semVal (kcell (c, k)) 0

/-- One cell closes. -/
theorem close_cell (V : Sent F) (K : Dev nD × Cell → ℕ) (ck : Dev nD × Cell) :
    iprop(records V K ∗ atPos ER (kcell ck) 1 (∅ : Finset (Fin 6)) 0) ⊢ (|={Set.univ}=> semVal (kcell ck) 0 : sProp 𝕄) := by
  have h := Rounds.cell_close ER (Rd V) (Set.mem_univ (K ck)) (g := kcell ck) (fun h => h) (R := 1) (duties_later V (kcell ck))
  have hi := inv_at V K ck
  refine BIBase.Entails.trans ?_ h
  iintro ⟨#HK, Ha⟩
  isplitr; · iapply hi; iexact HK
  iexact Ha

/-- All of them. -/
theorem close_all (V : Sent F) (K : Dev nD × Cell → ℕ) (c : Dev nD) :
    iprop(records V K ∗ atPos ER (barCell c) 1 (∅ : Finset (Fin 6)) 0 ∗ bigSep Finset.univ fun j : Fin 6 => doneRes (F := F) j c)
      ⊢ (|={Set.univ}=> zeros c : sProp 𝕄) := by
  have hp : iprop(atPos ER (barCell c) 1 (∅ : Finset (Fin 6)) 0 ∗ bigSep Finset.univ fun j : Fin 6 => doneRes (F := F) j c)
      = (bigSep Finset.univ fun k : Cell => atPos ER (kcell (c, k)) 1 (∅ : Finset (Fin 6)) 0 : sProp 𝕄) := by
    rw [cells_eq]; rfl
  rw [hp]
  exact (share_out (R := records V K) fun k _ => close_cell V K (c, k)).trans (bigSep_fupd _ _)

/-! ## What a device computes with -/

variable (m : (ℓ : Loc nD τ sig) → Buf (Elt F) ℓ) (ρ : Dev nD → PrngReg)

/-- The launch's memory. -/
def s₀ : MemSt nD τ sig (Elt F) := ⟨m, fun _ => 0, ρ⟩

/-- Device `c`'s argument arrays, as its windows stage them. -/
def insOf (c : Dev nD) : Ins F where
  x := (win0_0.blk (0 : Fin 1)).view.read (Elt F) ((s₀ m ρ).mem ((c : Thread nD τ).loc main_arg0))
  wq := (win0_1.blk (0 : Fin 1)).view.read (Elt F) ((s₀ m ρ).mem ((c : Thread nD τ).loc main_arg1))
  k := (win0_2.blk (0 : Fin 1)).view.read (Elt F) ((s₀ m ρ).mem ((c : Thread nD τ).loc main_arg2))
  v := (win0_3.blk (0 : Fin 1)).view.read (Elt F) ((s₀ m ρ).mem ((c : Thread nD τ).loc main_arg3))
  wo := (win0_4.blk (0 : Fin 1)).view.read (Elt F) ((s₀ m ρ).mem ((c : Thread nD τ).loc main_arg4))

/-- What a device's run starts from, and what is left of it: scratch buffers, and the cells at zero. -/
def start (c : Dev nD) : sProp 𝕄 :=
  iprop(G' (sentOf (insOf m ρ)) c ∗ cred (tallyAt (barCell c) () 6) ∗ (bigSep Finset.univ fun j : Fin 6 => arr (F := F) j c) ∗ levAts L lv)

def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f))

def Φ₀ (c : Dev nD) : sProp 𝕄 := iprop(start m ρ c ∗ scr c)
def Φ₁ (c : Dev nD) : sProp 𝕄 := iprop(scr c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (insOf m ρ c).x
    | ⟨1, _⟩ => (insOf m ρ c).wq
    | ⟨2, _⟩ => (insOf m ρ c).k
    | ⟨3, _⟩ => (insOf m ρ c).v
    | ⟨4, _⟩ => (insOf m ρ c).wo
    | ⟨5, _⟩ => outOf (insOf m ρ) c
  Φ t := match t with
    | ⟨0, _⟩ => Φ₀ m ρ c
    | ⟨_ + 1, _⟩ => Φ₁ c
  q _ := fullShare
  owed t := match t with
    | ⟨0, _⟩ => owed0 c
    | ⟨_ + 1, _⟩ => 0

/-- The one grid point. -/
def t₀ : Fin cfg0.N := t0_0
theorem fin_N (t : Fin cfg0.N) : t = t₀ := fin_N0 t

theorem fetch_0 : (cfg0.win (0 : Fin 6)).fetch t₀ = true := rfl
theorem fetch_1 : (cfg0.win (1 : Fin 6)).fetch t₀ = true := rfl
theorem fetch_2 : (cfg0.win (2 : Fin 6)).fetch t₀ = true := rfl
theorem fetch_3 : (cfg0.win (3 : Fin 6)).fetch t₀ = true := rfl
theorem fetch_4 : (cfg0.win (4 : Fin 6)).fetch t₀ = true := rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ c ∗ (dats m ρ 0 c).owesAt () t₀.succ
    ∗ stg c cc0_stg0_0 (insOf m ρ c).x
    ∗ stg c cc0_stg1_0 (insOf m ρ c).wq
    ∗ stg c cc0_stg2_0 (insOf m ρ c).k
    ∗ stg c cc0_stg3_0 (insOf m ρ c).v
    ∗ stg c cc0_stg4_0 (insOf m ρ c).wo
    ∗ stg c cc0_stg5_0 (outOf (insOf m ρ) c))

/-- What the run leaves is what the pipeline's body is to leave. -/
theorem post_intro (K : Dev nD × Cell → ℕ) (c : Dev nD) :
    iprop(records (sentOf (insOf m ρ)) K ∗ runPost (insOf m ρ) c) ⊢ (|={Set.univ}=> bodyPost m ρ c : sProp 𝕄) := by
  have hcl := close_all (sentOf (insOf m ρ)) K c
  rw [six] at hcl
  have hjo := oSlots_join (F := F) c
  have hjm := mSlots_join (F := F) c
  rw [six] at hjo hjm
  unfold runPost
  iintro ⟨#HK, ⟨⟨%W', HO⟩, Hab, Hd0, Hd1, Hd2, Hd3, Hd4, Hd5, Ho0, Hm0, Ho1, Hm1, Ho2, Hm2, Ho3, Hm3, Ho4, Hm4, Ho5, Hm5, Hi0, Hi1, Hi2, Hi3, Hi4, Hi5, Hg0, Hg1, Hg2, Hg3⟩⟩
  imod hcl $$ [Hab Hd0 Hd1 Hd2 Hd3 Hd4 Hd5] with Hz
  · isplitr; · iexact HK
    isplitl [Hab]; · iexact Hab
    isplitl [Hd0]; · iexact Hd0
    isplitl [Hd1]; · iexact Hd1
    isplitl [Hd2]; · iexact Hd2
    isplitl [Hd3]; · iexact Hd3
    isplitl [Hd4]; · iexact Hd4
    iexact Hd5
  ihave Ho := hjo $$ [Ho0 Ho1 Ho2 Ho3 Ho4 Ho5]
  · isplitl [Ho0]; · iexact Ho0
    isplitl [Ho1]; · iexact Ho1
    isplitl [Ho2]; · iexact Ho2
    isplitl [Ho3]; · iexact Ho3
    isplitl [Ho4]; · iexact Ho4
    iexact Ho5
  ihave Hm := hjm $$ [Hm0 Hm1 Hm2 Hm3 Hm4 Hm5]
  · isplitl [Hm0]; · iexact Hm0
    isplitl [Hm1]; · iexact Hm1
    isplitl [Hm2]; · iexact Hm2
    isplitl [Hm3]; · iexact Hm3
    isplitl [Hm4]; · iexact Hm4
    iexact Hm5
  imodintro
  unfold bodyPost Φ₁ scr
  isplitl [Hz Ho Hm Hg0 Hg1 Hg2 Hg3]
  · isplitr [Hz]
    · isplitl [Hg0]; · iexact Hg0
      isplitl [Hg1]; · iexact Hg1
      isplitl [Hg2]; · iexact Hg2
      isplitl [Hg3]; · iexact Hg3
      isplitl [Ho]; · iexact Ho
      iexact Hm
    · iexact Hz
  isplitl [HO]
  · unfold Dat.owesAt Pipeline.owesWithin
    iexists W'
    isplitr; · (ipureintro; exact fun _ _ => Or.inl trivial)
    iexact HO
  isplitl [Hi0]
  · iexists _; isplitr; · (ipureintro; rfl)
    iexact Hi0
  isplitl [Hi1]
  · iexists _; isplitr; · (ipureintro; rfl)
    iexact Hi1
  isplitl [Hi2]
  · iexists _; isplitr; · (ipureintro; rfl)
    iexact Hi2
  isplitl [Hi3]
  · iexists _; isplitr; · (ipureintro; rfl)
    iexact Hi3
  isplitl [Hi4]
  · iexists _; isplitr; · (ipureintro; rfl)
    iexact Hi4
  · iexists _; isplitr; · (ipureintro; rfl)
    iexact Hi5

/-- What the pipeline's body starts from is what the run needs. -/
theorem sound_body (c : Dev nD) :
    bodyPre m ρ c ⊢ wp frame (wpE (defs₀ (F := F)) 𝒱₀ (c : Thread nD τ) none) Set.univ
      (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
        cc0_scratch6 cc0_scratch7 cc0_scratch8 cc0_scratch9) (fun _ => bodyPost m ρ c) := by
  have hl := landing_split (F := F) c
  rw [six] at hl
  refine BIBase.Entails.trans ?_ (wp_fupd _ _ _ _ _)
  unfold bodyPre Φ₀ start G' poss payToks scr
  rw [six, six, six]
  iintro ⟨⟨⟨⟨%K, #HK, ⟨Hab, ⟨Hp00, Hp10, Hp20, Hp30⟩, ⟨Hp01, Hp11, Hp21, Hp31⟩, ⟨Hp02, Hp12, Hp22, Hp32⟩, ⟨Hp03, Hp13, Hp23, Hp33⟩, ⟨Hp04, Hp14, Hp24, Hp34⟩, ⟨Hp05, Hp15, Hp25, Hp35⟩⟩, ⟨Hb0, Hs0⟩, ⟨Hb1, Hs1⟩, ⟨Hb2, Hs2⟩, ⟨Hb3, Hs3⟩, ⟨Hb4, Hs4⟩, ⟨Hb5, Hs5⟩⟩, Hcb, ⟨Hc0, Hc1, Hc2, Hc3, Hc4, Hc5⟩, #HL⟩,
    ⟨%g0, Hg0⟩, ⟨%g1, Hg1⟩, ⟨%g2, Hg2⟩, ⟨%g3, Hg3⟩, Ho, Hm⟩, HO,
    ⟨%d0, %e0, %he0, Hi0⟩, ⟨%d1, %e1, %he1, Hi1⟩, ⟨%d2, %e2, %he2, Hi2⟩, ⟨%d3, %e3, %he3, Hi3⟩, ⟨%d4, %e4, %he4, Hi4⟩, ⟨%d5, %e5, %he5, Hi5⟩⟩
  have hx0 : e0 = (insOf m ρ c).x := by rw [he0]; unfold Dat.before; rw [if_pos fetch_0]; rfl
  subst hx0
  have hx1 : e1 = (insOf m ρ c).wq := by rw [he1]; unfold Dat.before; rw [if_pos fetch_1]; rfl
  subst hx1
  have hx2 : e2 = (insOf m ρ c).k := by rw [he2]; unfold Dat.before; rw [if_pos fetch_2]; rfl
  subst hx2
  have hx3 : e3 = (insOf m ρ c).v := by rw [he3]; unfold Dat.before; rw [if_pos fetch_3]; rfl
  subst hx3
  have hx4 : e4 = (insOf m ρ c).wo := by rw [he4]; unfold Dat.before; rw [if_pos fetch_4]; rfl
  subst hx4
  unfold Dat.owesAt Pipeline.owesWithin
  icases HO with ⟨%W, %hW, HO⟩
  ihave HO := (Entails.of_eq (show owes (c : Thread nD τ) ((dats m ρ 0 c).owed t₀.castSucc) W = (owes (c : Thread nD τ) (owed0 c) W : sProp 𝕄) from rfl)) $$ HO
  ihave Hl := hl $$ [Ho Hm]
  · unfold landing; isplitl [Ho] <;> iassumption
  icases Hl with ⟨Hl0, Hl1, Hl2, Hl3, Hl4, Hl5⟩
  iapply (run_body (insOf m ρ) K c W e5 g0 g1 g2 g3 fun _ => iprop(|={Set.univ}=> bodyPost m ρ c))
  unfold runPre
  isplitr []
  · isplitr; · iexact HK
    isplitr; · iexact HL
    isplitl [HO]; · iexact HO
    isplitl [Hcb]; · iexact Hcb
    isplitl [Hab]; · iexact Hab
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hp00 Hp10 Hp20 Hp30 Hc0]
    · unfold waitRes arr
      isplitl [Hp00]; · iexact Hp00
      isplitl [Hp10]; · iexact Hp10
      isplitl [Hp20]; · iexact Hp20
      isplitl [Hp30]; · iexact Hp30
      iexact Hc0
    isplitl [Hp01 Hp11 Hp21 Hp31 Hc1]
    · unfold waitRes arr
      isplitl [Hp01]; · iexact Hp01
      isplitl [Hp11]; · iexact Hp11
      isplitl [Hp21]; · iexact Hp21
      isplitl [Hp31]; · iexact Hp31
      iexact Hc1
    isplitl [Hp02 Hp12 Hp22 Hp32 Hc2]
    · unfold waitRes arr
      isplitl [Hp02]; · iexact Hp02
      isplitl [Hp12]; · iexact Hp12
      isplitl [Hp22]; · iexact Hp22
      isplitl [Hp32]; · iexact Hp32
      iexact Hc2
    isplitl [Hp03 Hp13 Hp23 Hp33 Hc3]
    · unfold waitRes arr
      isplitl [Hp03]; · iexact Hp03
      isplitl [Hp13]; · iexact Hp13
      isplitl [Hp23]; · iexact Hp23
      isplitl [Hp33]; · iexact Hp33
      iexact Hc3
    isplitl [Hp04 Hp14 Hp24 Hp34 Hc4]
    · unfold waitRes arr
      isplitl [Hp04]; · iexact Hp04
      isplitl [Hp14]; · iexact Hp14
      isplitl [Hp24]; · iexact Hp24
      isplitl [Hp34]; · iexact Hp34
      iexact Hc4
    isplitl [Hp05 Hp15 Hp25 Hp35 Hc5]
    · unfold waitRes arr
      isplitl [Hp05]; · iexact Hp05
      isplitl [Hp15]; · iexact Hp15
      isplitl [Hp25]; · iexact Hp25
      isplitl [Hp35]; · iexact Hp35
      iexact Hc5
    isplitl [Hi0]; · iexact Hi0
    isplitl [Hi1]; · iexact Hi1
    isplitl [Hi2]; · iexact Hi2
    isplitl [Hi3]; · iexact Hi3
    isplitl [Hi4]; · iexact Hi4
    isplitl [Hi5]; · iexact Hi5
    isplitl [Hg0]; · iexact Hg0
    isplitl [Hg1]; · iexact Hg1
    isplitl [Hg2]; · iexact Hg2
    iexact Hg3
  · iintro H
    iapply (post_intro m ρ K c)
    isplitr; · iexact HK
    iexact H

set_option maxRecDepth 65536 in
/-- The pipeline's body obligation. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ (c : Thread nD τ) none) Set.univ
      (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
        cc0_scratch6 cc0_scratch7 cc0_scratch8 cc0_scratch9) (fun _ => bodyPost m ρ c)
  exact sound_body m ρ c

/-! ## The launch's conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed0 c ∗ prngReg c (ρ c) ∗ G' (sentOf (insOf m ρ)) c)
      ⊢ |={Set.univ}=> iprop(start m ρ c ∗ emp) := by
  have hc := owed0_cred (F := F) c
  iintro ⟨-, Hlev, Hcr, -, HG⟩
  ihave Hc := hc $$ Hcr
  icases Hc with ⟨H1, HN⟩
  imodintro
  unfold start
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr zeros
  rw [sems0_eq]
  iintro ⟨Hr, HzB, Hz⟩
  isplitl [HzB]; · iexact HzB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The windows' arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution of the sixteen devices
    terminates without fault, its windows' arrays end at `finalA`, every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed0) (howed₀ := fun _ => rfl) (howedN := fun _ => rfl)
    (L := L) (lv := lv) (hL := L_of_ne) (hwaits := waits m ρ)
    (G := G (sentOf (insOf m ρ))) (G' := G' (sentOf (insOf m ρ))) (u₀ := u₀)
    (hu₀ := by
      unfold u₀
      iintro Hu
      ihave H := (ownU_pair _ _) $$ Hu
      icases H with ⟨HP, HX⟩
      imod (fund_cells (sentOf (insOf m ρ))) $$ HX with HG
      imodintro
      isplitl [HP] <;> iassumption)
    (hglob := glob (sentOf (insOf m ρ)))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

theorem finalA_in (c : Dev nD) (w : Fin 6) (h : (cfg0.win w).isOut = false) :
    finalA m ρ c w = m ((cfg0.win w).arr.view.loc (c : Thread nD τ)) :=
  (dats (F := F) m ρ 0 c).arrAt_in w h _

end Cert.Exchange

end
-- ==== Proof.Frames.lean ====
/-
# The frames

The run of `Launch.lean`, its values dropped, is the frame of the kernel as printed (at bits) and of the idealized kernel
(at the extended reals); the reference's frame is the run of its host operations.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Exchange

open Idealize.ShloMosaic
open Idealize.ShloMosaic.TcCoe
open Idealize.SL.Sem

/-- At bits a named constant is the word the kernel prints. -/
instance namedBits : Named Bits where
  named _ _ φ bits := FloatOps.ofBits φ bits

section Ends
open Cert.KernelIdeal Cert.KernelIdeal.Gen

variable {F : FTy → Type} [FloatOps F] [Named F] (m : (ℓ : Loc nD τ sig) → Buf (Elt F) ℓ) (ρ : Dev nD → PrngReg)

/-- Every device's argument arrays end unchanged, and every counter at zero. -/
theorem run_frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c =>
    ⟨(h.1 c (0 : Fin 6)).trans (finalA_in m ρ c 0 rfl), (h.1 c (1 : Fin 6)).trans (finalA_in m ρ c 1 rfl),
      (h.1 c (2 : Fin 6)).trans (finalA_in m ρ c 2 rfl), (h.1 c (3 : Fin 6)).trans (finalA_in m ρ c 3 rfl),
      (h.1 c (4 : Fin 6)).trans (finalA_in m ρ c 4 rfl)⟩, h.2⟩) (run_main m ρ)

end Ends

/-- The idealized kernel leaves its arguments unchanged and its counters at zero. -/
theorem frame_kernelIdeal : Cert.quiescent_KernelIdeal := fun m ρ _ => run_frame (F := Ideal) m ρ

/-- At bits the two kernels have one body table: the named constant is the printed word. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl
  | ⟨n + 1, h⟩, _ => exact absurd h (Nat.not_lt.2 (Nat.le_add_left _ _))

theorem defs_eq : Cert.Kernel.defs (F := Bits) = Cert.KernelIdeal.defs (F := Bits) :=
  congrArg (Pipeline.defs Cert.KernelIdeal.pcfgs) bodies_eq

/-- The kernel as printed leaves its arguments unchanged and its counters at zero: its run is the idealized kernel's. -/
theorem frame_kernel : Cert.quiescent_Kernel := fun m ρ _ => by
  rw [defs_eq]
  exact run_frame (F := Bits) m ρ

/-- The reference leaves its arguments unchanged; it declares no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- The kernel's masking constant is named, and minus infinity. -/
theorem masks : Cert.preserves_Kernel_KernelIdeal :=
  IdealRules.named_const.statement Cert.KernelIdeal.κ "mask" .f32 0xCE6E6B28#32 ⊥ rfl

end Cert.Exchange

end
-- ==== Proof.Math.lean ====
/-
# Softmax in parts

The mathematics of the exchange, over extended reals: a part is a finite set of keys with its largest score, the sum
of the exponentials of its scores relative to that, and the sum of the values so weighted. Four disjoint parts merge to
the part of their union; dividing a part's values by its sum is the weighted mean.
-/
module

public import Idealize.ShloMosaic.PureOps.Ideal
public import Mathlib.Data.EReal.Operations
public import Mathlib.Data.EReal.Inv

@[expose] public section

noncomputable section

namespace Cert.Exchange

open Idealize.ShloMosaic

/-! ## Exponentials -/

theorem exp_bot : Ideal.exp ⊥ = 0 := rfl
theorem exp_coe (r : ℝ) : Ideal.exp (r : EReal) = (Real.exp r : EReal) := rfl

theorem exp_nonneg (x : EReal) : 0 ≤ Ideal.exp x := by
  induction x using EReal.rec with
  | bot => exact le_rfl
  | top => exact le_top
  | coe r => exact EReal.coe_nonneg.mpr (Real.exp_pos r).le

theorem sub_ne_top {a b : EReal} (h : a ≤ b) : a - b ≠ ⊤ := by
  induction a using EReal.rec <;> induction b using EReal.rec <;> simp_all [sub_eq_add_neg, ← EReal.coe_neg, ← EReal.coe_add]

theorem exp_ne_top {a b : EReal} (h : a ≤ b) : Ideal.exp (a - b) ≠ ⊤ := by
  have h' := sub_ne_top h
  generalize a - b = x at h' ⊢
  induction x using EReal.rec with
  | bot => exact EReal.zero_ne_top
  | top => exact absurd rfl h'
  | coe r => exact EReal.coe_ne_top _

/-- Rescaling: the exponential relative to a smaller bound, times the exponential of that bound relative to a larger. -/
theorem exp_rescale {s a b : EReal} (h : s ≤ a) (h' : a ≤ b) : Ideal.exp (s - a) * Ideal.exp (a - b) = Ideal.exp (s - b) := by
  induction s using EReal.rec <;> induction a using EReal.rec <;> induction b using EReal.rec <;>
    simp_all [sub_eq_add_neg, ← EReal.coe_neg, ← EReal.coe_add, exp_bot, exp_coe]
  rw [← EReal.coe_mul, ← Real.exp_add]
  congr 2; ring

/-- A masked score has weight zero. -/
theorem exp_bot_sub (b : EReal) : Ideal.exp (⊥ - b) = 0 := by
  simp [sub_eq_add_neg, exp_bot]

/-! ## Sums -/

theorem sum_mul_of_nonneg {ι : Type*} (T : Finset ι) (f : ι → EReal) {e : EReal} (h : 0 ≤ e) (h' : e ≠ ⊤) : (∑ k ∈ T, f k) * e = ∑ k ∈ T, f k * e := by
  classical
  induction T using Finset.induction_on with
  | empty => simp
  | insert a T ha ih => rw [Finset.sum_insert ha, Finset.sum_insert ha, EReal.right_distrib_of_nonneg_of_ne_top h h', ih]

theorem sum_ne_top {ι : Type*} (T : Finset ι) (f : ι → EReal) (h : ∀ k ∈ T, f k ≠ ⊤) : ∑ k ∈ T, f k ≠ ⊤ := by
  classical
  induction T using Finset.induction_on with
  | empty => simp
  | insert a T ha ih =>
    rw [Finset.sum_insert ha]
    exact EReal.add_ne_top (h a (Finset.mem_insert_self a T)) (ih fun k hk => h k (Finset.mem_insert_of_mem hk))

/-! ## Parts -/

section Parts

variable {ι : Type} [DecidableEq ι] (s v : ι → EReal)

/-- The sum of the exponentials of the scores over a set of keys, relative to a bound. -/
def sumTo (T : Finset ι) (b : EReal) : EReal := ∑ k ∈ T, Ideal.exp (s k - b)
/-- The values over a set of keys, weighted by those exponentials. -/
def outTo (T : Finset ι) (b : EReal) : EReal := ∑ k ∈ T, Ideal.exp (s k - b) * v k
/-- A part's largest score, sum and weighted values. -/
def pMax (T : Finset ι) : EReal := T.sup s
def pSum (T : Finset ι) : EReal := sumTo s T (pMax s T)
def pOut (T : Finset ι) : EReal := outTo s v T (pMax s T)

theorem le_pMax {T : Finset ι} {k : ι} (h : k ∈ T) : s k ≤ pMax s T := Finset.le_sup h

theorem pSum_rescale (T : Finset ι) {b : EReal} (h : pMax s T ≤ b) : Ideal.exp (pMax s T - b) * pSum s T = sumTo s T b := by
  unfold pSum sumTo
  rw [mul_comm, sum_mul_of_nonneg T _ (exp_nonneg _) (exp_ne_top h)]
  exact Finset.sum_congr rfl fun k hk => exp_rescale (le_pMax s hk) h

theorem pOut_rescale (T : Finset ι) {b : EReal} (h : pMax s T ≤ b) : pOut s v T * Ideal.exp (pMax s T - b) = outTo s v T b := by
  unfold pOut outTo
  rw [sum_mul_of_nonneg T _ (exp_nonneg _) (exp_ne_top h)]
  refine Finset.sum_congr rfl fun k hk => ?_
  rw [← exp_rescale (le_pMax s hk) h, mul_assoc, mul_comm (v k), ← mul_assoc]

/-- The union of four sets. -/
def un4 (A B C D : Finset ι) : Finset ι := A ∪ B ∪ C ∪ D

/-- Four sets of which no two meet. -/
structure Apart (A B C D : Finset ι) : Prop where
  ab : Disjoint A B
  abc : Disjoint (A ∪ B) C
  abcd : Disjoint (A ∪ B ∪ C) D

variable (A B C D : Finset ι)

theorem merge_max : max (max (max (pMax s A) (pMax s B)) (pMax s C)) (pMax s D) = pMax s (un4 A B C D) := by
  unfold pMax un4
  rw [Finset.sup_union, Finset.sup_union, Finset.sup_union]

variable {A B C D} in
theorem sumTo_un4 (h : Apart A B C D) (b : EReal) : sumTo s A b + sumTo s B b + sumTo s C b + sumTo s D b = sumTo s (un4 A B C D) b := by
  unfold sumTo un4
  rw [Finset.sum_union h.abcd, Finset.sum_union h.abc, Finset.sum_union h.ab]

variable {A B C D} in
theorem outTo_un4 (h : Apart A B C D) (b : EReal) : outTo s v A b + outTo s v B b + outTo s v C b + outTo s v D b = outTo s v (un4 A B C D) b := by
  unfold outTo un4
  rw [Finset.sum_union h.abcd, Finset.sum_union h.abc, Finset.sum_union h.ab]

theorem pMax_le_un4 : (pMax s A ≤ pMax s (un4 A B C D) ∧ pMax s B ≤ pMax s (un4 A B C D)) ∧ pMax s C ≤ pMax s (un4 A B C D) ∧ pMax s D ≤ pMax s (un4 A B C D) := by
  rw [← merge_max]
  refine ⟨⟨?_, ?_⟩, ?_, ?_⟩ <;> simp

variable {A B C D}

/-- The sum of four parts that do not meet, each rescaled to the common maximum. -/
theorem merge_sum (h : Apart A B C D) :
    Ideal.exp (pMax s A - pMax s (un4 A B C D)) * pSum s A + Ideal.exp (pMax s B - pMax s (un4 A B C D)) * pSum s B
      + Ideal.exp (pMax s C - pMax s (un4 A B C D)) * pSum s C + Ideal.exp (pMax s D - pMax s (un4 A B C D)) * pSum s D = pSum s (un4 A B C D) := by
  have hle := pMax_le_un4 s A B C D
  rw [pSum_rescale s A hle.1.1, pSum_rescale s B hle.1.2, pSum_rescale s C hle.2.1, pSum_rescale s D hle.2.2, sumTo_un4 s h]
  rfl

/-- Their weighted values. -/
theorem merge_out (h : Apart A B C D) :
    pOut s v A * Ideal.exp (pMax s A - pMax s (un4 A B C D)) + pOut s v B * Ideal.exp (pMax s B - pMax s (un4 A B C D))
      + pOut s v C * Ideal.exp (pMax s C - pMax s (un4 A B C D)) + pOut s v D * Ideal.exp (pMax s D - pMax s (un4 A B C D)) = pOut s v (un4 A B C D) := by
  have hle := pMax_le_un4 s A B C D
  rw [pOut_rescale s v A hle.1.1, pOut_rescale s v B hle.1.2, pOut_rescale s v C hle.2.1, pOut_rescale s v D hle.2.2, outTo_un4 s v h]
  rfl

end Parts

/-! ## The mean -/

section Mean

variable {ι : Type} (s v : ι → EReal) (T : Finset ι)

/-- With no score `⊤` and one that is not `⊥`, the sum of the exponentials is a positive real. -/
theorem pSum_pos (h : ∀ k ∈ T, s k ≠ ⊤) (h' : ∃ k ∈ T, s k ≠ ⊥) : 0 < pSum s T ∧ pSum s T ≠ ⊤ := by
  obtain ⟨k, hk, hb⟩ := h'
  obtain ⟨j, hj, hm⟩ := Finset.exists_max_image T s ⟨k, hk⟩
  have hM : pMax s T = s j := le_antisymm (Finset.sup_le hm) (Finset.le_sup hj)
  have hjb : s j ≠ ⊥ := fun e => hb (le_bot_iff.mp (e ▸ hm k hk))
  refine ⟨?_, sum_ne_top T _ fun i hi => exp_ne_top (Finset.le_sup hi)⟩
  have h1 : (0 : EReal) < Ideal.exp (s j - pMax s T) := by
    rw [hM]
    have hjt := h j hj
    generalize s j = x at hjt hjb
    induction x using EReal.rec with
    | bot => exact absurd rfl hjb
    | top => exact absurd rfl hjt
    | coe r => exact EReal.coe_pos.mpr (Real.exp_pos _)
  exact lt_of_lt_of_le h1 (Finset.single_le_sum (f := fun k => Ideal.exp (s k - pMax s T)) (fun i _ => exp_nonneg _) hj)

/-- Dividing the weighted values by the sum is weighting by the divided weights. -/
theorem mean_eq (h : 0 < pSum s T ∧ pSum s T ≠ ⊤) :
    Ideal.div (pOut s v T) (pSum s T) = ∑ k ∈ T, v k * Ideal.div (Ideal.exp (s k - pMax s T)) (pSum s T) := by
  have h0 : pSum s T ≠ 0 := h.1.ne'
  unfold Ideal.div
  simp only [if_neg h0]
  unfold pOut outTo
  rw [sum_mul_of_nonneg T _ (EReal.inv_nonneg_of_nonneg h.1.le) (fun e => ?_)]
  · refine Finset.sum_congr rfl fun k _ => ?_
    rw [mul_comm (Ideal.exp _), mul_assoc]
  · have := h.1; have := h.2
    generalize pSum s T = x at *
    induction x using EReal.rec with
    | bot => simp at *
    | top => simp at *
    | coe r => rw [← EReal.coe_inv] at e; exact EReal.coe_ne_top _ e

end Mean

/-! ## Real values -/

/-- An extended real that is a real. -/
def IsReal (a : EReal) : Prop := ∃ r : ℝ, a = r

theorem IsReal.mul {a b : EReal} : IsReal a → IsReal b → IsReal (a * b) := by
  rintro ⟨x, rfl⟩ ⟨y, rfl⟩; exact ⟨x * y, (EReal.coe_mul x y).symm⟩

theorem IsReal.sum {ι : Type*} (T : Finset ι) (f : ι → EReal) (h : ∀ k ∈ T, IsReal (f k)) : IsReal (∑ k ∈ T, f k) := by
  classical
  induction T using Finset.induction_on with
  | empty => exact ⟨0, by simp⟩
  | insert a T ha ih =>
    obtain ⟨x, hx⟩ := h a (Finset.mem_insert_self a T)
    obtain ⟨y, hy⟩ := ih fun k hk => h k (Finset.mem_insert_of_mem hk)
    exact ⟨x + y, by rw [Finset.sum_insert ha, hx, hy, EReal.coe_add]⟩

theorem IsReal.ne_top {a : EReal} : IsReal a → a ≠ ⊤ := by rintro ⟨x, rfl⟩; exact EReal.coe_ne_top x
theorem IsReal.ne_bot {a : EReal} : IsReal a → a ≠ ⊥ := by rintro ⟨x, rfl⟩; exact EReal.coe_ne_bot x

end Cert.Exchange

end

end
-- ==== Proof.Pre.lean ====
/-
# What the precondition says

The precondition compares magnitudes with infinity; at the extended reals it says that every entry of the activations,
of the projection and of the keys is a real number.
-/
module

public import proofs.«01_k».proof.Defs
public import proofs.«01_k».proof.Proof.Math
public import Idealize.ShloMosaic.Lib.IdealHost

@[expose] public section

noncomputable section

namespace Cert.Exchange

open Idealize.ShloMosaic
open Idealize.ShloMosaic.TcCoe Idealize.ShloMosaic.ValueIdx

/-- The shape relations of the precondition over the kernel's arguments. -/
theorem finiteFacts : Cert.Pre_finite_KernelIdeal.Facts where
  bcast_S_S2x128x512 := by decide
  bcast_S_S512x256 := by decide
  bcast_S_S2x128x4x64 := by decide

/-- The shape relations of the precondition over the reference's arguments. -/
theorem finiteFactsRef : Cert.Pre_finite_ReferenceIdeal.Facts where
  bcast_S_S2x128x512 := by decide
  bcast_S_S512x256 := by decide
  bcast_S_S2x2048x4x64 := by decide

theorem ofBits_inf : Ideal.ofBits .bf16 0x7F80#16 = ⊤ := by simp [Ideal.ofBits, Ideal.ieee]

/-- A magnitude below infinity is a real number's. -/
theorem isReal_of_abs_lt {a : EReal} (h : Ideal.cmp .olt (max a (-a)) ⊤ = 1#1) : IsReal a := by
  induction a using EReal.rec with
  | bot => simp [Ideal.cmp] at h
  | top => simp [Ideal.cmp] at h
  | coe r => exact ⟨r, rfl⟩

/-- An array whose magnitudes compare below infinity everywhere has real entries. -/
theorem isReal_of_mask {S : Shape} (h : (⟨0, ![]⟩ : Shape).BroadcastsInDim S ![]) (x : FVec Ideal S .bf16)
    (e : cmpf .olt (Host.absf x) (broadcastInDim S ![] h (constant (⟨0, ![]⟩ : Shape) .bf16 0x7F80#16)) = (fun _ => 1#1)) (j : S.Idx) : IsReal (x j) := by
  have ej := congrFun e j
  have hb : broadcastInDim S ![] h (constant (F := Ideal) (⟨0, ![]⟩ : Shape) .bf16 0x7F80#16) j = (⊤ : EReal) :=
    (broadcastInDim_scalar_apply h _ j).trans ofBits_inf
  refine isReal_of_abs_lt (a := x j) ?_
  rw [← hb]
  exact ej

section Entries

attribute [local instance] finiteFacts
open Cert.KernelIdeal

variable {m : (ℓ : Loc nD τ sig) → Buf (Elt Ideal) ℓ} (hm : Pre_KernelIdeal_finite_KernelIdeal m) (c : Dev nD)
include hm

theorem real_x (j : S2x128x512.Idx) : IsReal (m ((c : Thread nD τ).loc main_arg0) j) :=
  isReal_of_mask (S := S2x128x512) finiteFacts.bcast_S_S2x128x512 _ (hm c).1 j
theorem real_wq (j : S512x256.Idx) : IsReal (m ((c : Thread nD τ).loc main_arg1) j) :=
  isReal_of_mask (S := S512x256) finiteFacts.bcast_S_S512x256 _ (hm c).2.1 j
theorem real_k (j : S2x128x4x64.Idx) : IsReal (m ((c : Thread nD τ).loc main_arg2) j) :=
  isReal_of_mask (S := S2x128x4x64) finiteFacts.bcast_S_S2x128x4x64 _ (hm c).2.2 j

end Entries

end Cert.Exchange

end
-- ==== Proof.Mask.lean ====
/-
# Which keys a query attends to

The kernel's mask, read at a query row and a key column of one device: the column's global key block number, modulo
four, is the row's query block number.
-/
module

public import proofs.«01_k».proof.Proof.Vals
public import Idealize.ShloMosaic.Lib.Pointwise

@[expose] public section

noncomputable section

namespace Cert.Exchange

open Cert.KernelIdeal Cert.KernelIdeal.Gen
open Idealize.ShloMosaic

/-- Whether query row `i` attends to key `j` of device `c`. -/
def attends (c : Fin 16) (i j : Fin 128) : Bool := (2 * c.val + j.val / 64) % 4 = i.val / 64

/-- Division by 64 rounding down, as the kernel writes it. -/
def fdiv64 (a : BitVec 32) : BitVec 32 :=
  Scalar.select
    (IntOp.andi
      (IntOp.cmpi .ne (IntOp.subi (BitVec.setWidth 32 (IntOp.cmpi .sgt a 0#32)) (BitVec.setWidth 32 (IntOp.cmpi .slt a 0#32)))
        (Scalar.subi (Scalar.extui (Scalar.cmpi .sgt 64#32 0#32)) (Scalar.extui (Scalar.cmpi .slt 64#32 0#32))))
      (IntOp.cmpi .ne (IntOp.remsi .vector a 64#32) 0#32))
    (IntOp.subi (IntOp.divsi .vector a 64#32) 1#32) (IntOp.divsi .vector a 64#32)

/-- The remainder modulo 4 with the divisor's sign, as the kernel writes it. -/
def fmod4 (a : BitVec 32) : BitVec 32 :=
  Scalar.select
    (IntOp.andi
      (IntOp.xori (IntOp.cmpi .slt (IntOp.remsi .vector a (Scalar.select (Scalar.cmpi .eq 4#32 0#32) 1#32 4#32)) 0#32)
        (Scalar.cmpi .slt (Scalar.select (Scalar.cmpi .eq 4#32 0#32) 1#32 4#32) 0#32))
      (IntOp.cmpi .ne (IntOp.remsi .vector a (Scalar.select (Scalar.cmpi .eq 4#32 0#32) 1#32 4#32)) 0#32))
    (IntOp.addi (IntOp.remsi .vector a (Scalar.select (Scalar.cmpi .eq 4#32 0#32) 1#32 4#32)) (Scalar.select (Scalar.cmpi .eq 4#32 0#32) 1#32 4#32))
    (IntOp.remsi .vector a (Scalar.select (Scalar.cmpi .eq 4#32 0#32) 1#32 4#32))

/-- The global number of a key's block. -/
def keyBlk (c : Dev nD) (a : BitVec 32) : BitVec 32 := IntOp.addi (Scalar.muli (devWord c) 2#32) (fdiv64 a)

theorem maskOf_word (c : Dev nD) (i j : Fin 128) : maskOf c (ix2 i j) =
    IntOp.ori (IntOp.cmpi .eq (fdiv64 (BitVec.ofNat 32 i.val)) (keyBlk c (BitVec.ofNat 32 j.val)))
      (IntOp.cmpi .eq (fmod4 (keyBlk c (BitVec.ofNat 32 j.val))) (fmod4 (fdiv64 (BitVec.ofNat 32 i.val)))) := by
  pointwise [maskOf, k0_pay9, k0_pay6, k0_pay7, k0_pay3, k0_pay4, k0_pay8, k0_pay5]
  rfl

theorem fdiv64_ofNat : ∀ i : Fin 128, fdiv64 (BitVec.ofNat 32 i.val) = BitVec.ofNat 32 (i.val / 64) := by decide +kernel

theorem keyBlk_ofNat (c : Dev nD) (j : Fin 128) : keyBlk c (BitVec.ofNat 32 j.val) = BitVec.ofNat 32 (2 * c.val + j.val / 64) := by
  have h : ∀ (c : Dev nD) (p : Fin 2), IntOp.addi (Scalar.muli (devWord c) 2#32) (BitVec.ofNat 32 p.val) = BitVec.ofNat 32 (2 * c.val + p.val) := by decide +kernel
  unfold keyBlk
  rw [fdiv64_ofNat]
  exact h c ⟨j.val / 64, by omega⟩

/-- The kernel's mask at a row and a column. -/
theorem maskOf_apply (c : Dev nD) (i j : Fin 128) : maskOf c (ix2 i j) = BitVec.ofBool (attends c i j) := by
  have h : ∀ (c : Dev nD) (p q : Fin 2),
      IntOp.ori (IntOp.cmpi .eq (BitVec.ofNat 32 q.val) (BitVec.ofNat 32 (2 * c.val + p.val)))
        (IntOp.cmpi .eq (fmod4 (BitVec.ofNat 32 (2 * c.val + p.val))) (fmod4 (BitVec.ofNat 32 q.val)))
      = BitVec.ofBool (decide ((2 * c.val + p.val) % 4 = q.val)) := by decide +kernel
  rw [maskOf_word, fdiv64_ofNat, keyBlk_ofNat]
  exact h c ⟨j.val / 64, by omega⟩ ⟨i.val / 64, by omega⟩

/-- A choice by the mask. -/
theorem select_ofBool {α : Type} (p : Bool) (a b : α) : Scalar.select (BitVec.ofBool p) a b = if p then a else b := by
  cases p <;> rfl

/-- Every query row attends to some key. -/
theorem attends_some (i : Fin 128) : ∃ (c : Fin 16) (j : Fin 128), attends c i j = true := by
  have h : ∀ q : Fin 2, decide ((2 * 0 + (64 * q.val) / 64) % 4 = q.val) = true := by decide
  exact ⟨0, ⟨64 * (i.val / 64), by omega⟩, h ⟨i.val / 64, by omega⟩⟩

end Cert.Exchange

end

end
-- ==== Proof.Local.lean ====
/-
# The local part at an index

Over extended reals: what the kernel's local buffers hold at each row and column. A row is a batch entry and a query; a
key is a device and one of its own keys. The local buffers hold the part (largest score, sum, weighted values) of the
device's own keys.
-/
module

public import proofs.«01_k».proof.Proof.Mask
public import proofs.«01_k».proof.Proof.Math
public import Idealize.ShloMosaic.Lib.IdealHost

@[expose] public section

noncomputable section

namespace Cert.Exchange

open Cert.KernelIdeal Cert.KernelIdeal.Gen
open Idealize.ShloMosaic
open Idealize.ShloMosaic.TcCoe

/-! ## The arguments and the scores -/

/-- The arguments: queries, their projection and the output projection are the same on every device. -/
structure Arrays where
  x : S2x128x512.Idx → EReal
  wq : S512x256.Idx → EReal
  k : Dev nD → S2x128x4x64.Idx → EReal
  v : Dev nD → S2x128x4x64.Idx → EReal
  wo : S256x512.Idx → EReal

/-- What the arguments are on one device. -/
def insAt (A : Arrays) (c : Dev nD) : Ins Ideal := ⟨A.x, A.wq, A.k c, A.v c, A.wo⟩

/-- A key: the device that holds it and its number there. -/
abbrev Key : Type := Dev nD × Fin 128
/-- A row's batch entry and query. -/
def rowB (r : Fin 256) : Fin 2 := ⟨r.val / 128, by omega⟩
def rowI (r : Fin 256) : Fin 128 := ⟨r.val % 128, by omega⟩

section Spec

variable (A : Arrays)

/-- A projected query, unscaled. -/
def query (b : Fin 2) (i : Fin 128) (h : Fin 4) (d : Fin 64) : EReal :=
  ∑ e : Fin 512, A.x (ix3 b i e) * A.wq (ix2 e (⟨h.val * 64 + d.val, by omega⟩ : Fin 256))
/-- The scale. -/
def eighth : EReal := Ideal.ofBits .f32 0x3E000000#32
/-- The score of a query against a key, `⊥` where it does not attend. -/
def score (b : Fin 2) (i : Fin 128) (h : Fin 4) (k : Key) : EReal :=
  if attends k.1 i k.2 then ∑ d : Fin 64, (query A b i h d * eighth) * A.k k.1 (ix4 b k.2 h d) else ⊥
/-- A key's value. -/
def value (b : Fin 2) (h : Fin 4) (d : Fin 64) (k : Key) : EReal := A.v k.1 (ix4 b k.2 h d)
/-- The keys of one device. -/
def keysOf (D : Finset (Dev nD)) : Finset Key := D ×ˢ Finset.univ

end Spec

/-! ## Reading a whole buffer's block -/

theorem qOf_eq (x : S2x128x512.Idx → EReal) (wq : S512x256.Idx → EReal) : qOf (F := Ideal) x wq = k0_pay2 (F := Ideal) x wq := by
  unfold qOf
  exact congrArg₂ (k0_pay2 (F := Ideal)) (Memref.readAt_unit_zero (Elt Ideal) cc0_stg0_0 zero3 _ x) (Memref.readAt_unit_zero (Elt Ideal) cc0_stg1_0 zero2 _ wq)

theorem keyOf_apply (k : S2x128x4x64.Idx → EReal) (b : Fin 2) (h : Fin 4) (u w : Fin 1) (j : Fin 128) (d : Fin 64) :
    keyOf (F := Ideal) k b h (ix4 u j w d) = k (ix4 b j h d) := by
  unfold keyOf
  refine congrArg k (funext fun a => Fin.ext ?_)
  fin_cases a
  · exact show b.val + 1 * u.val = b.val by omega
  · exact show 0 + 1 * j.val = j.val by omega
  · exact show h.val + 1 * w.val = h.val by omega
  · exact show 0 + 1 * d.val = d.val by omega

theorem valOf_apply (v : S2x128x4x64.Idx → EReal) (b : Fin 2) (h : Fin 4) (u w : Fin 1) (j : Fin 128) (d : Fin 64) :
    valOf (F := Ideal) v b h (ix4 u j w d) = v (ix4 b j h d) := by
  unfold valOf
  refine congrArg v (funext fun a => Fin.ext ?_)
  fin_cases a
  · exact show b.val + 1 * u.val = b.val by omega
  · exact show 0 + 1 * j.val = j.val by omega
  · exact show h.val + 1 * w.val = h.val by omega
  · exact show 0 + 1 * d.val = d.val by omega

/-! ## One head -/

/-- A fold of `max` from `⊥` is the supremum. -/
theorem fold_max_eq {n : ℕ} (f : Fin n → EReal) : Finset.univ.fold max ⊥ f = Finset.univ.sup f := rfl

theorem ofBits_neg_inf : Ideal.ofBits .f32 4286578688#32 = ⊥ := by
  simp [Ideal.ofBits, Ideal.ieee]

theorem mask_named : (Named.named κ "mask" (φ := .f32) 3463342888#32 : Ideal .f32) = ⊥ := rfl

theorem eighth_eq : eighth = (((1 : ℝ) / 8 : ℝ) : EReal) := by
  unfold eighth
  simp [Ideal.ofBits, Ideal.ieee, -EReal.coe_mul]; norm_num

section Head

variable (A : Arrays) (c : Dev nD) (b : Fin 2) (h : Fin 4) (i : Fin 128)

theorem query_apply (d : Fin 64) : k0_pay2 (F := Ideal) A.x A.wq (ix4 b i h d) = query A b i h d * eighth := by
  pointwise [k0_pay2]
  rfl

theorem headScore_apply (j : Fin 128) : headScore c (insAt A c) b h (ix2 i j) = score A b i h (c, j) := by
  unfold headScore score
  rw [qOf_eq]
  pointwise [scoreOf]
  rw [maskOf_apply, select_ofBool, mask_named]
  simp only [keyOf_apply]
  refine if_congr Iff.rfl (Finset.sum_congr rfl fun d _ => congrArg (· * _) (query_apply A b h i d)) rfl

theorem headMax_apply : headMax c (insAt A c) b h (ix1 i) = pMax (score A b i h) (keysOf {c}) := by
  unfold headMax
  pointwise [maxOf]
  simp only [headScore_apply, ofBits_neg_inf]
  rw [fold_max_eq]
  unfold pMax keysOf
  rw [Finset.sup_product_left, Finset.sup_singleton]

theorem headExp_apply (j : Fin 128) : headExp c (insAt A c) b h (ix2 i j) = Ideal.exp (score A b i h (c, j) - pMax (score A b i h) (keysOf {c})) := by
  unfold headExp
  pointwise [expOf]
  rw [maskOf_apply, select_ofBool, headScore_apply]
  rw [show maxOf (headScore c (insAt A c) b h) (ix1 i) = _ from headMax_apply A c b h i]
  split
  · rfl
  · next hn =>
    rw [show score A b i h (c, j) = ⊥ from if_neg hn, exp_bot_sub]

theorem headSum_apply : headSum c (insAt A c) b h (ix1 i) = pSum (score A b i h) (keysOf {c}) := by
  unfold headSum
  pointwise [sumOf]
  simp only [headExp_apply]
  unfold pSum sumTo keysOf
  rw [Finset.sum_product, Finset.sum_singleton]

theorem headOut_apply (d : Fin 64) : headOut c (insAt A c) b h (ix2 i d) = pOut (score A b i h) (value A b h d) (keysOf {c}) := by
  unfold headOut
  pointwise [wvOf]
  simp only [headExp_apply, valOf_apply]
  unfold pOut outTo keysOf
  rw [Finset.sum_product, Finset.sum_singleton]
  rfl

end Head

/-! ## The local buffers -/

theorem row_cases (r : Fin 256) :
    (r.val < 128 ∧ rowB r = 0 ∧ r.val = (rowI r).val) ∨ (¬ r.val < 128 ∧ rowB r = 1 ∧ r.val - 128 = (rowI r).val) := by
  simp only [Fin.ext_iff, rowB, rowI]
  simp
  omega

theorem head_cases (h : Fin 4) : h = 0 ∨ h = 1 ∨ h = 2 ∨ h = 3 := by revert h; decide

theorem statCols_apply (s : Fin 2 → Fin 4 → FVec Ideal S128 .f32) (r : Fin 256) (h : Fin 4) : statCols s (ix2 r h) = s (rowB r) h (ix1 (rowI r)) := by
  have hr := row_cases r
  generalize rowB r = b at hr
  generalize rowI r = i at hr
  pointwise [statCols]
  rcases hr with ⟨h1, rfl, h2⟩ | ⟨h1, rfl, h2⟩
  · rw [dif_pos h1]
    simp only [h2]
    obtain rfl | rfl | rfl | rfl := head_cases h <;> rfl
  · rw [dif_neg h1]
    simp only [h2]
    obtain rfl | rfl | rfl | rfl := head_cases h <;> rfl

/-- Reading one of four blocks of 64 columns. -/
theorem four_blocks {α : Type} (g : Fin 4 → Fin 64 → α) (h : Fin 4) (d : Fin 64) (x : ℕ) (hx : x = 64 * h.val + d.val) :
    (if h1 : x < 64 then g 0 ⟨x, h1⟩ else if h2 : x - 64 < 64 then g 1 ⟨x - 64, h2⟩ else if h3 : x - 64 - 64 < 64 then g 2 ⟨x - 64 - 64, h3⟩
      else g 3 ⟨x - 64 - 64 - 64, by omega⟩) = g h d := by
  subst hx
  obtain rfl | rfl | rfl | rfl := head_cases h <;> simp
  all_goals
    split_ifs <;> first
      | (exfalso; omega)
      | exact congrArg (g _) (Fin.ext (by simp; omega))

theorem locO_apply (c : Dev nD) (I : Ins Ideal) (r : Fin 256) (h : Fin 4) (d : Fin 64) (hb : 64 * h.val + d.val < 256) :
    locO c I (ix2 r (⟨64 * h.val + d.val, hb⟩ : Fin 256)) = headOut c I (rowB r) h (ix2 (rowI r) d) := by
  have hr := row_cases r
  generalize rowB r = b at hr
  generalize rowI r = i at hr
  pointwise [locO]
  rcases hr with ⟨h1, rfl, h2⟩ | ⟨h1, rfl, h2⟩
  · rw [dif_pos h1]
    simp only [h2]
    exact four_blocks (fun h d => headOut c I 0 h (ix2 i d)) h d _ rfl
  · rw [dif_neg h1]
    simp only [h2]
    exact four_blocks (fun h d => headOut c I 1 h (ix2 i d)) h d _ rfl

/-- What a device's buffers hold between rounds: the part of a set of keys, row by row and head by head. -/
structure Holds (A : Arrays) (P : Part Ideal) (T : Finset Key) : Prop where
  m : ∀ (r : Fin 256) (h : Fin 4), P.ms (ix2 r (⟨4 * (0 : Fin 2).val + h.val, by simp; omega⟩ : Fin 8)) = pMax (score A (rowB r) (rowI r) h) T
  s : ∀ (r : Fin 256) (h : Fin 4), P.ms (ix2 r (⟨4 * (1 : Fin 2).val + h.val, by simp; omega⟩ : Fin 8)) = pSum (score A (rowB r) (rowI r) h) T
  o : ∀ (r : Fin 256) (h : Fin 4) (d : Fin 64), P.o (ix2 r (⟨64 * h.val + d.val, by omega⟩ : Fin 256))
    = pOut (score A (rowB r) (rowI r) h) (value A (rowB r) h d) T

theorem cols2_max (m s : FVec Ideal S256x4 .f32) (r : Fin 256) (h : Fin 4) (hb) : cols2 m s (ix2 r (⟨4 * (0 : Fin 2).val + h.val, hb⟩ : Fin 8)) = m (ix2 r h) := by
  have e : ((ix2 r (⟨4 * (0 : Fin 2).val + h.val, hb⟩ : Fin 8)) 1).val = h.val := by simp [ix2]
  unfold cols2
  rw [dif_pos (by rw [e]; exact h.isLt)]
  refine congrArg m (funext fun a => ?_)
  fin_cases a
  · rfl
  · exact Fin.ext e

theorem cols2_sum (m s : FVec Ideal S256x4 .f32) (r : Fin 256) (h : Fin 4) (hb) : cols2 m s (ix2 r (⟨4 * (1 : Fin 2).val + h.val, hb⟩ : Fin 8)) = s (ix2 r h) := by
  have e : ((ix2 r (⟨4 * (1 : Fin 2).val + h.val, hb⟩ : Fin 8)) 1).val = 4 + h.val := by simp [ix2]
  unfold cols2
  rw [dif_neg (by rw [e]; omega)]
  refine congrArg s (funext fun a => ?_)
  fin_cases a
  · rfl
  · exact Fin.ext (show _ - 4 = h.val by rw [e]; omega)

theorem cols4_apply {e : EltTy} (b : Fin 4 → S256x64.Idx → Elt Ideal e) (r : Fin 256) (h : Fin 4) (d : Fin 64) (hb) :
    cols4 b (ix2 r (⟨64 * h.val + d.val, hb⟩ : Fin 256)) = b h (ix2 r d) := by
  have e1 : (64 * h.val + d.val) / 64 = h.val := by omega
  have e2 : (64 * h.val + d.val) % 64 = d.val := by omega
  exact congrArg₂ (fun (h : Fin 4) (d : Fin 64) => b h (ix2 r d)) (Fin.ext e1) (Fin.ext e2)

/-- The local buffers hold the part of the device's own keys. -/
theorem holds_part0 (A : Arrays) (c : Dev nD) : Holds A (part0 (insAt A) c) (keysOf {c}) where
  m r h := by
    refine (cols2_max _ _ r h _).trans ?_
    rw [shapeCast_self]
    exact (statCols_apply _ r h).trans (headMax_apply A c (rowB r) h (rowI r))
  s r h := by
    refine (cols2_sum _ _ r h _).trans ?_
    rw [shapeCast_self]
    exact (statCols_apply _ r h).trans (headSum_apply A c (rowB r) h (rowI r))
  o r h d := by
    refine (congrFun (shapeCast_self (locO c (insAt A c)) _) _).trans ?_
    exact (locO_apply c (insAt A c) r h d _).trans (headOut_apply A c (rowB r) h (rowI r) d)

/-- What is sent is what is held. -/
theorem snd0_eq (A : Arrays) (c : Dev nD) : (snd0 (insAt A) c : S256x256.Idx → EReal) = (part0 (insAt A) c).o := by
  unfold snd0 part0
  rw [shapeCast_self, shapeCast_self]
  rfl

end Cert.Exchange

end

end
-- ==== Proof.Merge.lean ====
/-
# The merge at an index

A merge of four parts that do not meet holds the part of their union; after the two rounds every device holds the part
of all keys.
-/
module

public import proofs.«01_k».proof.Proof.Local

@[expose] public section

noncomputable section

namespace Cert.Exchange

open Cert.KernelIdeal Cert.KernelIdeal.Gen
open Idealize.ShloMosaic
open Idealize.ShloMosaic.TcCoe

/-! ## Reading a block of a buffer -/

theorem ownBlk_apply (f : S256x256.Idx → EReal) (h : Fin 4) (r : Fin 256) (d : Fin 64) :
    ownBlk (F := Ideal) f h (ix2 r d) = f (ix2 r (⟨64 * h.val + d.val, by omega⟩ : Fin 256)) := by
  unfold ownBlk
  refine congrArg f (funext fun a => Fin.ext ?_)
  fin_cases a
  · exact show 0 + 1 * r.val = r.val by omega
  · exact show 64 * h.val + 1 * d.val = 64 * h.val + d.val by omega

theorem landBlk_apply (f : S256x256.Idx → EReal) (j : Fin 6) (h : Fin 4) (u : Fin 1) (r : Fin 256) (d : Fin 64) :
    landBlk (F := Ideal) (landO (F := Ideal) f) j h (ix3 u r d) = f (ix2 r (⟨64 * h.val + d.val, by omega⟩ : Fin 256)) := by
  unfold landBlk
  refine congrArg f (funext fun a => Fin.ext ?_)
  fin_cases a
  · exact show 0 + 1 * r.val = r.val by omega
  · exact show 64 * h.val + 1 * d.val = 64 * h.val + d.val by omega

theorem ownStat_apply (f : S256x8.Idx → EReal) (k : Fin 2) (r : Fin 256) (h : Fin 4) :
    ownStat (F := Ideal) f k (ix2 r h) = f (ix2 r (⟨4 * k.val + h.val, by omega⟩ : Fin 8)) := by
  unfold ownStat
  refine congrArg f (funext fun a => Fin.ext ?_)
  fin_cases a
  · exact show 0 + 1 * r.val = r.val by omega
  · exact show 4 * k.val + 1 * h.val = 4 * k.val + h.val by omega

theorem dropUnit_apply (g : FVec Ideal S1x256x4 .f32) (r : Fin 256) (h : Fin 4) :
    shapeCast S256x4 g shapeCasts_S1x256x4_S256x4 (ix2 r h) = g (ix3 (0 : Fin 1) r h) := by
  pointwise []

theorem landStat_apply (f : S256x8.Idx → EReal) (j : Fin 6) (k : Fin 2) (r : Fin 256) (h : Fin 4) :
    landStat (F := Ideal) (landM (F := Ideal) f) j k (ix2 r h) = f (ix2 r (⟨4 * k.val + h.val, by omega⟩ : Fin 8)) := by
  refine (dropUnit_apply _ r h).trans ?_
  refine congrArg f (funext fun a => Fin.ext ?_)
  fin_cases a
  · exact show 0 + 1 * r.val = r.val by omega
  · exact show 4 * k.val + 1 * h.val = 4 * k.val + h.val by omega

/-! ## One merge -/

section One

variable (A : Arrays) (P Q0 Q1 Q2 : Part Ideal) (R : Recv Ideal) (sl : Fin 3 → Fin 6) (T T0 T1 T2 : Finset Key)

/-- What a device receives is what its three partners hold. -/
structure Gets : Prop where
  o0 : R.o 0 = landO (F := Ideal) Q0.o
  o1 : R.o 1 = landO (F := Ideal) Q1.o
  o2 : R.o 2 = landO (F := Ideal) Q2.o
  m0 : R.ms 0 = landM (F := Ideal) Q0.ms
  m1 : R.ms 1 = landM (F := Ideal) Q1.ms
  m2 : R.ms 2 = landM (F := Ideal) Q2.ms

variable {A P Q0 Q1 Q2 R T T0 T1 T2}

theorem mgM_apply (g : Gets Q0 Q1 Q2 R) (hP : Holds A P T) (h0 : Holds A Q0 T0) (h1 : Holds A Q1 T1) (h2 : Holds A Q2 T2) (r : Fin 256) (h : Fin 4) :
    mgM P R sl (ix2 r h) = pMax (score A (rowB r) (rowI r) h) (un4 T T0 T1 T2) := by
  unfold mgM
  pointwise [top4]
  rw [g.m0, g.m1, g.m2, ownStat_apply, landStat_apply, landStat_apply, landStat_apply, hP.m, h0.m, h1.m, h2.m, merge_max]

theorem mgW0_apply (g : Gets Q0 Q1 Q2 R) (hP : Holds A P T) (h0 : Holds A Q0 T0) (h1 : Holds A Q1 T1) (h2 : Holds A Q2 T2) (r : Fin 256) (h : Fin 4) :
    mgW0 P R sl (ix2 r h) = Ideal.exp (pMax (score A (rowB r) (rowI r) h) T - pMax (score A (rowB r) (rowI r) h) (un4 T T0 T1 T2)) := by
  unfold mgW0
  pointwise [wt]
  rw [mgM_apply sl g hP h0 h1 h2, ownStat_apply, hP.m]

theorem mgW_apply0 (g : Gets Q0 Q1 Q2 R) (hP : Holds A P T) (h0 : Holds A Q0 T0) (h1 : Holds A Q1 T1) (h2 : Holds A Q2 T2) (r : Fin 256) (h : Fin 4) :
    mgW P R sl 0 (ix2 r h) = Ideal.exp (pMax (score A (rowB r) (rowI r) h) T0 - pMax (score A (rowB r) (rowI r) h) (un4 T T0 T1 T2)) := by
  unfold mgW
  pointwise [wt]
  rw [mgM_apply sl g hP h0 h1 h2, g.m0, landStat_apply, h0.m]

theorem mgW_apply1 (g : Gets Q0 Q1 Q2 R) (hP : Holds A P T) (h0 : Holds A Q0 T0) (h1 : Holds A Q1 T1) (h2 : Holds A Q2 T2) (r : Fin 256) (h : Fin 4) :
    mgW P R sl 1 (ix2 r h) = Ideal.exp (pMax (score A (rowB r) (rowI r) h) T1 - pMax (score A (rowB r) (rowI r) h) (un4 T T0 T1 T2)) := by
  unfold mgW
  pointwise [wt]
  rw [mgM_apply sl g hP h0 h1 h2, g.m1, landStat_apply, h1.m]

theorem mgW_apply2 (g : Gets Q0 Q1 Q2 R) (hP : Holds A P T) (h0 : Holds A Q0 T0) (h1 : Holds A Q1 T1) (h2 : Holds A Q2 T2) (r : Fin 256) (h : Fin 4) :
    mgW P R sl 2 (ix2 r h) = Ideal.exp (pMax (score A (rowB r) (rowI r) h) T2 - pMax (score A (rowB r) (rowI r) h) (un4 T T0 T1 T2)) := by
  unfold mgW
  pointwise [wt]
  rw [mgM_apply sl g hP h0 h1 h2, g.m2, landStat_apply, h2.m]

theorem mgS_apply (g : Gets Q0 Q1 Q2 R) (hP : Holds A P T) (h0 : Holds A Q0 T0) (h1 : Holds A Q1 T1) (h2 : Holds A Q2 T2) (ha : Apart T T0 T1 T2)
    (r : Fin 256) (h : Fin 4) : mgS P R sl (ix2 r h) = pSum (score A (rowB r) (rowI r) h) (un4 T T0 T1 T2) := by
  unfold mgS
  pointwise [sum4]
  rw [mgW0_apply sl g hP h0 h1 h2, mgW_apply0 sl g hP h0 h1 h2, mgW_apply1 sl g hP h0 h1 h2, mgW_apply2 sl g hP h0 h1 h2,
    g.m0, g.m1, g.m2, ownStat_apply, landStat_apply, landStat_apply, landStat_apply, hP.s, h0.s, h1.s, h2.s]
  exact merge_sum _ ha

theorem mgO_apply (g : Gets Q0 Q1 Q2 R) (hP : Holds A P T) (h0 : Holds A Q0 T0) (h1 : Holds A Q1 T1) (h2 : Holds A Q2 T2) (ha : Apart T T0 T1 T2)
    (r : Fin 256) (h : Fin 4) (d : Fin 64) :
    mgO P R sl h (ix2 r d) = pOut (score A (rowB r) (rowI r) h) (value A (rowB r) h d) (un4 T T0 T1 T2) := by
  unfold mgO
  pointwise [blk4, wcol, wide]
  rw [mgW0_apply sl g hP h0 h1 h2, mgW_apply0 sl g hP h0 h1 h2, mgW_apply1 sl g hP h0 h1 h2, mgW_apply2 sl g hP h0 h1 h2,
    g.o0, g.o1, g.o2, ownBlk_apply, landBlk_apply, landBlk_apply, landBlk_apply, hP.o, h0.o, h1.o, h2.o]
  exact merge_out _ _ ha

/-- A merge holds the part of the union. -/
theorem holds_merged (g : Gets Q0 Q1 Q2 R) (hP : Holds A P T) (h0 : Holds A Q0 T0) (h1 : Holds A Q1 T1) (h2 : Holds A Q2 T2) (ha : Apart T T0 T1 T2) :
    Holds A (merged P R sl) (un4 T T0 T1 T2) where
  m r h := by
    refine (cols2_max _ _ r h _).trans ?_
    rw [shapeCast_self]
    exact mgM_apply sl g hP h0 h1 h2 r h
  s r h := by
    refine (cols2_sum _ _ r h _).trans ?_
    rw [shapeCast_self]
    exact mgS_apply sl g hP h0 h1 h2 ha r h
  o r h d := by
    refine (cols4_apply (e := .f32) (fun h => shapeCast S256x64 (mgO P R sl h) shapeCasts_S256x64_S256x64) r h d (by omega)).trans ?_
    rw [shapeCast_self]
    exact mgO_apply sl g hP h0 h1 h2 ha r h d

/-- What is sent of a merge is what it holds. -/
theorem mergedSnd_eq (P : Part Ideal) (R : Recv Ideal) (sl : Fin 3 → Fin 6) : (mergedSnd P R sl : S256x256.Idx → EReal) = (merged P R sl).o := rfl

end One

/-! ## The two rounds -/

/-- The devices whose keys a device's part covers after the first round. -/
def met1 (c : Dev nD) : Finset (Dev nD) := un4 {c} {peer 0 c} {peer 1 c} {peer 2 c}

theorem keysOf_un4 (D0 D1 D2 D3 : Finset (Dev nD)) : keysOf (un4 D0 D1 D2 D3) = un4 (keysOf D0) (keysOf D1) (keysOf D2) (keysOf D3) := by
  unfold keysOf un4
  rw [Finset.union_product, Finset.union_product, Finset.union_product]

theorem keysOf_apart {D0 D1 D2 D3 : Finset (Dev nD)} (h : Apart D0 D1 D2 D3) : Apart (keysOf D0) (keysOf D1) (keysOf D2) (keysOf D3) where
  ab := Finset.disjoint_product.mpr (Or.inl h.ab)
  abc := by
    unfold keysOf
    rw [← Finset.union_product]
    exact Finset.disjoint_product.mpr (Or.inl h.abc)
  abcd := by
    unfold keysOf
    rw [← Finset.union_product, ← Finset.union_product]
    exact Finset.disjoint_product.mpr (Or.inl h.abcd)

theorem apart_round0 (c : Dev nD) : Apart {c} {peer 0 c} {peer 1 c} {peer 2 c} where
  ab := by revert c; decide
  abc := by revert c; decide
  abcd := by revert c; decide

theorem apart_round1 (c : Dev nD) : Apart (met1 c) (met1 (peer 3 c)) (met1 (peer 4 c)) (met1 (peer 5 c)) where
  ab := by revert c; decide +kernel
  abc := by revert c; decide +kernel
  abcd := by revert c; decide +kernel

theorem met_all (c : Dev nD) : un4 (met1 c) (met1 (peer 3 c)) (met1 (peer 4 c)) (met1 (peer 5 c)) = Finset.univ := by revert c; decide +kernel

variable (A : Arrays)

theorem gets_recv0 (c : Dev nD) : Gets (part0 (insAt A) (peer 0 c)) (part0 (insAt A) (peer 1 c)) (part0 (insAt A) (peer 2 c)) (recv0 (insAt A) c) where
  o0 := congrArg (landO (F := Ideal)) (snd0_eq A (peer 0 c))
  o1 := congrArg (landO (F := Ideal)) (snd0_eq A (peer 1 c))
  o2 := congrArg (landO (F := Ideal)) (snd0_eq A (peer 2 c))
  m0 := rfl
  m1 := rfl
  m2 := rfl

theorem holds_part1 (c : Dev nD) : Holds A (part1 (insAt A) c) (keysOf (met1 c)) := by
  unfold met1
  rw [keysOf_un4]
  exact holds_merged sl0 (gets_recv0 A c) (holds_part0 A c) (holds_part0 A _) (holds_part0 A _) (holds_part0 A _) (keysOf_apart (apart_round0 c))

theorem gets_recv1 (c : Dev nD) : Gets (part1 (insAt A) (peer 3 c)) (part1 (insAt A) (peer 4 c)) (part1 (insAt A) (peer 5 c)) (recv1 (insAt A) c) where
  o0 := congrArg (landO (F := Ideal)) (mergedSnd_eq _ _ _)
  o1 := congrArg (landO (F := Ideal)) (mergedSnd_eq _ _ _)
  o2 := congrArg (landO (F := Ideal)) (mergedSnd_eq _ _ _)
  m0 := rfl
  m1 := rfl
  m2 := rfl

/-- After both rounds every device holds the part of all keys. -/
theorem holds_part2 (c : Dev nD) : Holds A (part2 (insAt A) c) Finset.univ := by
  have h : (Finset.univ : Finset Key) = keysOf (un4 (met1 c) (met1 (peer 3 c)) (met1 (peer 4 c)) (met1 (peer 5 c))) := by
    rw [met_all]; rfl
  rw [h, keysOf_un4]
  exact holds_merged sl1 (gets_recv1 A c) (holds_part1 A c) (holds_part1 A _) (holds_part1 A _) (holds_part1 A _) (keysOf_apart (apart_round1 c))

/-! ## The result -/

/-- A row's weighted mean of the values, over all keys. -/
def mean (b : Fin 2) (i : Fin 128) (h : Fin 4) (d : Fin 64) : EReal :=
  Ideal.div (pOut (score A b i h) (value A b h d) Finset.univ) (pSum (score A b i h) Finset.univ)

/-- The means projected. -/
def outAt (b : Fin 2) (i : Fin 128) (n : Fin 512) : EReal :=
  ∑ x : Fin 256, mean A b i (⟨x.val / 64, by omega⟩ : Fin 4) (⟨x.val % 64, by omega⟩ : Fin 64) * A.wo (ix2 x n)

/-- The result block, on every device, is the means projected. -/
theorem outOf_apply (c : Dev nD) (b : Fin 2) (i : Fin 128) (n : Fin 512) : outOf (insAt A) c (ix3 b i n) = outAt A b i n := by
  have hp := holds_part2 A c
  unfold outOf
  rw [show ((Memref.whole cc0_stg4_0 : Memref sig .tc .vmem S256x512 .bf16).view.readAt (Elt Ideal)
      (Rect.unit (s := S256x512) ![0, 0] S256x512.size inb_S256x512_S256x512_0_0).toLoadRect (insAt A c).wo) = A.wo
    from Memref.readAt_unit_zero (Elt Ideal) cc0_stg4_0 zero2 _ _]
  generalize part2 (insAt A) c = P at hp
  pointwise [k0_pay1, k0_pay115]
  unfold outAt
  change @Eq EReal _ _
  refine Finset.sum_congr rfl fun x _ => congrArg (· * _) ?_
  have hr : ∀ h : Fin 4, ∀ d : Fin 64, ∀ r : Fin 256, r.val = b.val * 128 + i.val →
      Ideal.div (ownBlk P.o h (ix2 r d)) (ownStat P.ms 1 (ix2 r h)) = mean A b i h d := by
    intro h d r hr
    have hb : rowB r = b := Fin.ext (by simp only [rowB]; omega)
    have hi : rowI r = i := Fin.ext (by simp only [rowI]; omega)
    rw [ownBlk_apply, ownStat_apply, hp.o, hp.s, hb, hi]
    rfl
  have e := four_blocks (fun h d => mean A b i h d) (⟨x.val / 64, by omega⟩ : Fin 4) (⟨x.val % 64, by omega⟩ : Fin 64) x.val
    (by simp only []; omega)
  refine Eq.trans ?_ e
  simp only [hr]

end Cert.Exchange

end

end
-- ==== Proof.Ref.lean ====
/-
# What the reference computes

The reference's result as a composition of named steps (mask, scores, row maxima, exponentials, weights, output), and
each step over extended reals read at an index.
-/
module

public import proofs.«01_k».proof.Proof.Gen.ReferenceIdeal.Run
public import proofs.«01_k».proof.Proof.Math
public import Idealize.ShloMosaic.Lib.Pointwise
public import Idealize.ShloMosaic.Lib.IdealHost

@[expose] public section

noncomputable section

namespace Cert.Whole

open Cert.ReferenceIdeal Cert.ReferenceIdeal.Gen
open Idealize.ShloMosaic Idealize.ShloMosaic.TcCoe
open Cert.Exchange (pMax pSum)

/-! ## The steps -/

/-- The block numbers of the queries and of the keys: division by 64 rounding down. -/
def qBlk : IVec S128 32 :=
  select
    (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32))))
        (broadcastInDim S128 ![] bcast_S_S128 (constantI S_ 32 0#32))))
    (subi (Host.divsi (iotaInDim S128 32 0) (broadcastInDim S128 ![] bcast_S_S128 (id (constantI S_ 32 64#32))))
      (broadcastInDim S128 ![] bcast_S_S128 (constantI S_ 32 1#32)))
    (Host.divsi (iotaInDim S128 32 0) (broadcastInDim S128 ![] bcast_S_S128 (id (constantI S_ 32 64#32))))
def kBlk : IVec S2048 32 :=
  select
    (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32))))
        (broadcastInDim S2048 ![] bcast_S_S2048 (constantI S_ 32 0#32))))
    (subi (Host.divsi (iotaInDim S2048 32 0) (broadcastInDim S2048 ![] bcast_S_S2048 (id (constantI S_ 32 64#32))))
      (broadcastInDim S2048 ![] bcast_S_S2048 (constantI S_ 32 1#32)))
    (Host.divsi (iotaInDim S2048 32 0) (broadcastInDim S2048 ![] bcast_S_S2048 (id (constantI S_ 32 64#32))))

/-- The same as a column and as a row. -/
def qCol : IVec S128x1 32 := broadcastInDim S128x1 ![0] bcast_S128_S128x1_0 qBlk
def kRow : IVec S1x2048 32 := broadcastInDim S1x2048 ![1] bcast_S2048_S1x2048_1 kBlk

/-- The divisor 4 of the remainders. -/
def four : IVec S_ 32 := select (cmpi .eq (id (constantI S_ 32 4#32)) (constantI S_ 32 0#32)) (constantI S_ 32 1#32) (id (constantI S_ 32 4#32))

/-- The block numbers modulo four. -/
def kMod : IVec S1x2048 32 :=
  select
    (andi (cmpi .ne (cmpi .slt (Host.remsi kRow (broadcastInDim S1x2048 ![] bcast_S_S1x2048 four)) (broadcastInDim S1x2048 ![] bcast_S_S1x2048 (constantI S_ 32 0#32)))
        (broadcastInDim S1x2048 ![] bcast_S_S1x2048 (cmpi .slt four (constantI S_ 32 0#32))))
      (cmpi .ne (Host.remsi kRow (broadcastInDim S1x2048 ![] bcast_S_S1x2048 four)) (broadcastInDim S1x2048 ![] bcast_S_S1x2048 (constantI S_ 32 0#32))))
    (addi (Host.remsi kRow (broadcastInDim S1x2048 ![] bcast_S_S1x2048 four)) (broadcastInDim S1x2048 ![] bcast_S_S1x2048 four))
    (Host.remsi kRow (broadcastInDim S1x2048 ![] bcast_S_S1x2048 four))
def qMod : IVec S128x1 32 :=
  select
    (andi (cmpi .ne (cmpi .slt (Host.remsi qCol (broadcastInDim S128x1 ![] bcast_S_S128x1 four)) (broadcastInDim S128x1 ![] bcast_S_S128x1 (constantI S_ 32 0#32)))
        (broadcastInDim S128x1 ![] bcast_S_S128x1 (cmpi .slt four (constantI S_ 32 0#32))))
      (cmpi .ne (Host.remsi qCol (broadcastInDim S128x1 ![] bcast_S_S128x1 four)) (broadcastInDim S128x1 ![] bcast_S_S128x1 (constantI S_ 32 0#32))))
    (addi (Host.remsi qCol (broadcastInDim S128x1 ![] bcast_S_S128x1 four)) (broadcastInDim S128x1 ![] bcast_S_S128x1 four))
    (Host.remsi qCol (broadcastInDim S128x1 ![] bcast_S_S128x1 four))

/-- The mask. -/
def refMask : IVec S128x2048 1 :=
  ori (cmpi .eq (broadcastInDim S128x2048 ![0, 1] bcast_S128x1_S128x2048_0_1 qCol) (broadcastInDim S128x2048 ![0, 1] bcast_S1x2048_S128x2048_0_1 kRow))
    (cmpi .eq (broadcastInDim S128x2048 ![0, 1] bcast_S1x2048_S128x2048_0_1 kMod) (broadcastInDim S128x2048 ![0, 1] bcast_S128x1_S128x2048_0_1 qMod))

/-- Whether a query attends to any key. -/
def refKeep : IVec S128 1 := Host.reduce IntOp.ori refMask (constantI S_ 1 0#1) reducesTo_S128x2048_S128_d1 h_S_

section Floats

variable (x : FVec Ideal S2x128x512 .bf16) (wq : FVec Ideal S512x256 .bf16) (k v : FVec Ideal S2x2048x4x64 .bf16) (wo : FVec Ideal S256x512 .bf16)

/-- The projected queries. -/
def refQ : FVec Ideal S2x128x4x64 .f32 :=
  shapeCast S2x128x4x64 (Host.dotGeneral dot_S2x128x512_S512x256_S2x128x256_2_0_01_1_n_n none (extf .f32 x bitsLt_bf16_f32) (extf .f32 wq bitsLt_bf16_f32))
    shapeCasts_S2x128x256_S2x128x4x64

/-- The masked, scaled scores. -/
def refScore : FVec Ideal S2x4x128x2048 .f32 :=
  select (broadcastInDim S2x4x128x2048 ![0, 1, 2, 3] bcast_S1x1x128x2048_S2x4x128x2048_0_1_2_3 (broadcastInDim S1x1x128x2048 ![2, 3] bcast_S128x2048_S1x1x128x2048_2_3 refMask))
    (mulf (Host.dotGeneral dot_S2x128x4x64_S2x2048x4x64_S2x4x128x2048_3_3_1_1_02_02 none (refQ x wq) (extf .f32 k bitsLt_bf16_f32))
      (broadcastInDim S2x4x128x2048 ![] bcast_S_S2x4x128x2048 (constant S_ .f32 0x3E000000#32)))
    (broadcastInDim S2x4x128x2048 ![] bcast_S_S2x4x128x2048 (id (constant S_ .f32 0xFF800000#32)))

end Floats

/-- The row maxima, exponentials, row sums and weights of given scores. -/
def refMax (s : FVec Ideal S2x4x128x2048 .f32) : FVec Ideal S2x4x128 .f32 :=
  Host.reduce FloatOps.maximumf s (constant S_ .f32 0xFF800000#32) reducesTo_S2x4x128x2048_S2x4x128_d3 h_S_
def refExp (s : FVec Ideal S2x4x128x2048 .f32) : FVec Ideal S2x4x128x2048 .f32 :=
  Host.exp (subf s (broadcastInDim S2x4x128x2048 ![0, 1, 2, 3] bcast_S2x4x128x1_S2x4x128x2048_0_1_2_3
    (broadcastInDim S2x4x128x1 ![0, 1, 2] bcast_S2x4x128_S2x4x128x1_0_1_2 (refMax s))))
def refSum (s : FVec Ideal S2x4x128x2048 .f32) : FVec Ideal S2x4x128x1 .f32 :=
  select (broadcastInDim S2x4x128x1 ![0, 1, 2, 3] bcast_S1x1x128x1_S2x4x128x1_0_1_2_3 (broadcastInDim S1x1x128x1 ![2] bcast_S128_S1x1x128x1_2 refKeep))
    (broadcastInDim S2x4x128x1 ![0, 1, 2] bcast_S2x4x128_S2x4x128x1_0_1_2
      (Host.reduceAdd (refExp s) (constant S_ .f32 0x00000000#32) reducesTo_S2x4x128x2048_S2x4x128_d3 h_S_))
    (broadcastInDim S2x4x128x1 ![] bcast_S_S2x4x128x1 (id (constant S_ .f32 0x3F800000#32)))
def refW (s : FVec Ideal S2x4x128x2048 .f32) : FVec Ideal S2x4x128x2048 .f32 :=
  select (broadcastInDim S2x4x128x2048 ![0, 1, 2, 3] bcast_S1x1x128x1_S2x4x128x2048_0_1_2_3 (broadcastInDim S1x1x128x1 ![2] bcast_S128_S1x1x128x1_2 refKeep))
    (Host.divf (refExp s) (broadcastInDim S2x4x128x2048 ![0, 1, 2, 3] bcast_S2x4x128x1_S2x4x128x2048_0_1_2_3 (refSum s)))
    (broadcastInDim S2x4x128x2048 ![] bcast_S_S2x4x128x2048 (id (constant S_ .f32 0x00000000#32)))

/-- The weighted values, projected. -/
def refOut (w : FVec Ideal S2x4x128x2048 .f32) (v : FVec Ideal S2x2048x4x64 .bf16) (wo : FVec Ideal S256x512 .bf16) : FVec Ideal S2x128x512 .f32 :=
  Host.dotGeneral dot_S2x128x256_S256x512_S2x128x512_2_0_01_1_n_n none
    (shapeCast S2x128x256
      (transpose S2x128x4x64 [0, 3, 1, 2]
        (Host.dotGeneral dot_S2x2048x4x64_S2x4x128x2048_S2x4x64x128_1_3_3_2_02_01 none (extf .f32 v bitsLt_bf16_f32) w)
        transposes_S2x4x64x128_S2x128x4x64_0_3_1_2)
      shapeCasts_S2x128x4x64_S2x128x256)
    (extf .f32 wo bitsLt_bf16_f32)

/-- The reference's result is the composition of the steps. -/
theorem res_eq (m : (ℓ : Loc nD τ sig) → Buf (Elt Ideal) ℓ) (c : Dev nD) :
    Value.res_main_v44 m c
      = refOut (refW (refScore (m ((c.tc : Thread nD τ).loc main_arg0)) (m ((c.tc : Thread nD τ).loc main_arg1)) (m ((c.tc : Thread nD τ).loc main_arg2))))
          (m ((c.tc : Thread nD τ).loc main_arg3)) (m ((c.tc : Thread nD τ).loc main_arg4)) := by
  unfold Value.res_main_v44
  rfl

/-! ## The mask at an index -/

/-- The sign of a word. -/
def rsign (a : BitVec 32) : BitVec 32 := if a = 0 then 0 else if a.msb = true then -1 else 1

/-- Division by 64 rounding down, as the reference writes it. -/
def rdiv64 (a : BitVec 32) : BitVec 32 :=
  Scalar.select
    (IntOp.andi
      (IntOp.cmpi .ne (rsign a) (rsign 64#32))
      (IntOp.cmpi .ne (IntOp.remsi .host a 64#32) 0#32))
    (IntOp.subi (IntOp.divsi .host a 64#32) 1#32) (IntOp.divsi .host a 64#32)

/-- The divisor of the remainders. -/
def rfour : BitVec 32 := Scalar.select (IntOp.cmpi .eq 4#32 0#32) 1#32 4#32

/-- The remainder modulo 4 with the divisor's sign, as the reference writes it. -/
def rmod4 (a : BitVec 32) : BitVec 32 :=
  Scalar.select
    (IntOp.andi (IntOp.cmpi .ne (IntOp.cmpi .slt (IntOp.remsi .host a rfour) 0#32) (IntOp.cmpi .slt rfour 0#32))
      (IntOp.cmpi .ne (IntOp.remsi .host a rfour) 0#32))
    (IntOp.addi (IntOp.remsi .host a rfour) rfour) (IntOp.remsi .host a rfour)

theorem qBlk_word (i : Fin 128) : qBlk (ix1 i) = rdiv64 (BitVec.ofNat 32 i.val) := by
  pointwise [qBlk]
  rfl

theorem kBlk_word (g : Fin 2048) : kBlk (ix1 g) = rdiv64 (BitVec.ofNat 32 g.val) := by
  pointwise [kBlk]
  rfl

theorem kMod_word (u : Fin 1) (g : Fin 2048) : kMod (ix2 u g) = rmod4 (kBlk (ix1 g)) := by
  pointwise [kMod, kRow, four]
  rfl

theorem qMod_word (i : Fin 128) (u : Fin 1) : qMod (ix2 i u) = rmod4 (qBlk (ix1 i)) := by
  pointwise [qMod, qCol, four]
  rfl

theorem rdiv64_query : ∀ i : Fin 128, rdiv64 (BitVec.ofNat 32 i.val) = BitVec.ofNat 32 (i.val / 64) := by decide +kernel
theorem rdiv64_key : ∀ g : Fin 2048, rdiv64 (BitVec.ofNat 32 g.val) = BitVec.ofNat 32 (g.val / 64) := by decide +kernel

/-- Query `i` attends to key `g` when the key's block number modulo four is the query's block number. -/
def sees (i : Fin 128) (g : Fin 2048) : Bool := (g.val / 64) % 4 = i.val / 64

/-- The reference's mask at a row and a column. -/
theorem refMask_apply (i : Fin 128) (g : Fin 2048) : refMask (ix2 i g) = BitVec.ofBool (sees i g) := by
  have h : ∀ (q : Fin 2) (p : Fin 32),
      IntOp.ori (IntOp.cmpi .eq (BitVec.ofNat 32 q.val) (BitVec.ofNat 32 p.val))
        (IntOp.cmpi .eq (rmod4 (BitVec.ofNat 32 p.val)) (rmod4 (BitVec.ofNat 32 q.val)))
      = BitVec.ofBool (decide (p.val % 4 = q.val)) := by decide +kernel
  pointwise [refMask, qCol, kRow]
  rw [kMod_word, qMod_word, qBlk_word, kBlk_word, rdiv64_query, rdiv64_key]
  exact h ⟨i.val / 64, by omega⟩ ⟨g.val / 64, by omega⟩

/-- Every query attends to some key. -/
theorem sees_some (i : Fin 128) : ∃ g : Fin 2048, sees i g = true := by
  have h : ∀ q : Fin 2, decide (((64 * q.val) / 64) % 4 = q.val) = true := by decide
  exact ⟨⟨64 * (i.val / 64), by omega⟩, h ⟨i.val / 64, by omega⟩⟩

theorem refKeep_apply (i : Fin 128) : refKeep (ix1 i) = 1#1 := by
  have h : ∀ y : BitVec 1, IntOp.ori (BitVec.ofBool true) y = 1#1 := by decide
  obtain ⟨g, hg⟩ := sees_some i
  pointwise [refKeep]
  rw [← Finset.insert_erase (Finset.mem_univ g), Finset.fold_insert (Finset.notMem_erase g _), refMask_apply, hg, h]

/-! ## The steps at an index -/

theorem ofBits_low : Ideal.ofBits .f32 4286578688#32 = ⊥ := by simp [Ideal.ofBits, Ideal.ieee]

/-- A choice by the mask. -/
theorem choose_ofBool {α : Type} (p : Bool) (a b : α) : Scalar.select (BitVec.ofBool p) a b = if p then a else b := by
  cases p <;> rfl

theorem choose_one {α : Type} (a b : α) : Scalar.select 1#1 a b = a := rfl

theorem refQ_apply (x : FVec Ideal S2x128x512 .bf16) (wq : FVec Ideal S512x256 .bf16) (b : Fin 2) (i : Fin 128) (h : Fin 4) (d : Fin 64) :
    refQ x wq (ix4 b i h d) = ∑ e : Fin 512, x (ix3 b i e) * wq (ix2 e (⟨h.val * 64 + d.val, by omega⟩ : Fin 256)) := by
  pointwise [refQ]

theorem refScore_apply (x : FVec Ideal S2x128x512 .bf16) (wq : FVec Ideal S512x256 .bf16) (k : FVec Ideal S2x2048x4x64 .bf16)
    (b : Fin 2) (i : Fin 128) (h : Fin 4) (g : Fin 2048) :
    refScore x wq k (ix4 b h i g)
      = if sees i g then (∑ d : Fin 64, refQ x wq (ix4 b i h d) * k (ix4 b g h d)) * Ideal.ofBits .f32 0x3E000000#32 else ⊥ := by
  pointwise [refScore]
  rw [refMask_apply, choose_ofBool]
  exact if_congr Iff.rfl rfl ofBits_low

section Scores

variable (s : FVec Ideal S2x4x128x2048 .f32) (b : Fin 2) (i : Fin 128) (h : Fin 4)

theorem refMax_apply : refMax s (ix3 b h i) = pMax (fun g : Fin 2048 => s (ix4 b h i g)) Finset.univ := by
  pointwise [refMax]
  rw [ofBits_low]
  rfl

theorem refExp_apply (g : Fin 2048) : refExp s (ix4 b h i g) = Ideal.exp (s (ix4 b h i g) - pMax (fun g : Fin 2048 => s (ix4 b h i g)) Finset.univ) := by
  pointwise [refExp]
  rw [refMax_apply]

theorem refSum_apply (u : Fin 1) : refSum s (ix4 b h i u) = pSum (fun g : Fin 2048 => s (ix4 b h i g)) Finset.univ := by
  pointwise [refSum]
  rw [refKeep_apply, choose_one]
  simp only [refExp_apply]
  rfl

theorem refW_apply (g : Fin 2048) : refW s (ix4 b h i g)
    = Ideal.div (Ideal.exp (s (ix4 b h i g) - pMax (fun g : Fin 2048 => s (ix4 b h i g)) Finset.univ)) (pSum (fun g : Fin 2048 => s (ix4 b h i g)) Finset.univ) := by
  pointwise [refW]
  rw [refKeep_apply, choose_one, refExp_apply, refSum_apply]

/-- The weighted mean of the values, by divided weights. -/
def refMean (v : FVec Ideal S2x2048x4x64 .bf16) (d : Fin 64) : EReal :=
  ∑ g : Fin 2048, v (ix4 b g h d)
    * Ideal.div (Ideal.exp (s (ix4 b h i g) - pMax (fun g : Fin 2048 => s (ix4 b h i g)) Finset.univ)) (pSum (fun g : Fin 2048 => s (ix4 b h i g)) Finset.univ)

theorem refOut_apply (v : FVec Ideal S2x2048x4x64 .bf16) (wo : FVec Ideal S256x512 .bf16) (n : Fin 512) :
    refOut (refW s) v wo (ix3 b i n)
      = ∑ x : Fin 256, refMean s b i (⟨x.val / 64, by omega⟩ : Fin 4) v (⟨x.val % 64, by omega⟩ : Fin 64) * wo (ix2 x n) := by
  pointwise [refOut]
  simp only [refW_apply]
  rfl

end Scores

end Cert.Whole

end

end
-- ==== Proof.Equal.lean ====
/-
# The two values are one

Over real activations, projections and keys, what every device computes is what the reference computes: the scores are
the same numbers, the keys are one set under two numberings, and a mean divided once is the mean of divided weights.
-/
module

public import proofs.«01_k».proof.Proof.Merge
public import proofs.«01_k».proof.Proof.Ref

@[expose] public section

noncomputable section

namespace Cert.Exchange

open Idealize.ShloMosaic
open Idealize.ShloMosaic.TcCoe
open Cert.Whole

/-! ## One numbering of the keys for another -/

/-- The number of a key in the whole sequence. -/
def keyEquiv : Key ≃ Fin 2048 := finProdFinEquiv (m := 16) (n := 128)

theorem keyEquiv_val (k : Key) : (keyEquiv k).val = k.2.val + 128 * k.1.val := rfl

theorem pMax_equiv {ι κ : Type} [Fintype ι] [Fintype κ] (e : ι ≃ κ) (s : κ → EReal) : pMax s Finset.univ = pMax (fun k => s (e k)) Finset.univ := by
  unfold pMax
  rw [← Finset.map_univ_equiv e, Finset.sup_map]
  rfl

theorem pSum_equiv {ι κ : Type} [Fintype ι] [Fintype κ] (e : ι ≃ κ) (s : κ → EReal) : pSum s Finset.univ = pSum (fun k => s (e k)) Finset.univ := by
  unfold pSum
  rw [pMax_equiv e s]
  exact (Equiv.sum_comp e _).symm

/-- The two masks are one. -/
theorem sees_key (i : Fin 128) (k : Key) : sees i (keyEquiv k) = attends k.1 i k.2 := by
  unfold sees attends
  rw [keyEquiv_val]
  have e : (k.2.val + 128 * k.1.val) / 64 = 2 * k.1.val + k.2.val / 64 := by omega
  rw [e]

/-! ## The scores -/

section Values

variable (A : Arrays) (kw vw : Cert.ReferenceIdeal.S2x2048x4x64.Idx → EReal)

/-- The devices' keys and values are the whole arrays, cut along the sequence. -/
structure Cuts : Prop where
  k : ∀ (k : Key) (b : Fin 2) (h : Fin 4) (d : Fin 64), A.k k.1 (ix4 b k.2 h d) = kw (ix4 b (keyEquiv k) h d)
  v : ∀ (k : Key) (b : Fin 2) (h : Fin 4) (d : Fin 64), A.v k.1 (ix4 b k.2 h d) = vw (ix4 b (keyEquiv k) h d)

/-- The activations, the projection and the keys are real numbers. -/
structure Real : Prop where
  x : ∀ j, IsReal (A.x j)
  wq : ∀ j, IsReal (A.wq j)
  k : ∀ c j, IsReal (A.k c j)

theorem eighth_nonneg : (0 : EReal) ≤ eighth := by rw [eighth_eq]; exact EReal.coe_nonneg.mpr (by norm_num)
theorem eighth_ne_top : eighth ≠ ⊤ := by rw [eighth_eq]; exact EReal.coe_ne_top _

variable {A kw vw}

/-- The reference's scores are the kernel's. -/
theorem refScore_key (hc : Cuts A kw vw) (b : Fin 2) (i : Fin 128) (h : Fin 4) (k : Key) :
    refScore A.x A.wq kw (ix4 b h i (keyEquiv k)) = score A b i h k := by
  refine (refScore_apply A.x A.wq kw b i h (keyEquiv k)).trans ?_
  unfold score
  rw [sees_key]
  refine if_congr Iff.rfl ?_ rfl
  refine (sum_mul_of_nonneg Finset.univ _ eighth_nonneg eighth_ne_top).trans (Finset.sum_congr rfl fun d _ => ?_)
  rw [refQ_apply, hc.k k b h d, mul_assoc, mul_assoc, mul_comm eighth]
  rfl

theorem query_real (hr : Real A) (b : Fin 2) (i : Fin 128) (h : Fin 4) (d : Fin 64) : IsReal (query A b i h d) :=
  IsReal.sum _ _ fun e _ => (hr.x _).mul (hr.wq _)

theorem score_real (hr : Real A) (b : Fin 2) (i : Fin 128) (h : Fin 4) (k : Key) (ha : attends k.1 i k.2 = true) : IsReal (score A b i h k) := by
  unfold score
  rw [if_pos ha]
  exact IsReal.sum _ _ fun d _ => ((query_real hr b i h d).mul ⟨_, eighth_eq⟩).mul (hr.k _ _)

/-- A row's sum of exponentials is positive and finite. -/
theorem rowSum_pos (hr : Real A) (b : Fin 2) (i : Fin 128) (h : Fin 4) :
    0 < pSum (score A b i h) Finset.univ ∧ pSum (score A b i h) Finset.univ ≠ ⊤ := by
  refine pSum_pos _ _ (fun k _ => ?_) ?_
  · by_cases ha : attends k.1 i k.2 = true
    · exact (score_real hr b i h k ha).ne_top
    · unfold score
      rw [if_neg ha]
      exact bot_ne_top
  · obtain ⟨c, j, ha⟩ := attends_some i
    exact ⟨(c, j), Finset.mem_univ _, (score_real hr b i h (c, j) ha).ne_bot⟩

/-! ## The mean and the result -/

/-- The reference's mean of divided weights is the kernel's divided mean. -/
theorem refMean_eq (hc : Cuts A kw vw) (hr : Real A) (b : Fin 2) (i : Fin 128) (h : Fin 4) (d : Fin 64) :
    refMean (refScore A.x A.wq kw) b i h vw d = mean A b i h d := by
  have hs : (fun k : Key => refScore A.x A.wq kw (ix4 b h i (keyEquiv k))) = score A b i h := funext (refScore_key hc b i h)
  have hM := (pMax_equiv keyEquiv fun g => refScore A.x A.wq kw (ix4 b h i g)).trans (congrArg (fun s => pMax s Finset.univ) hs)
  have hS := (pSum_equiv keyEquiv fun g => refScore A.x A.wq kw (ix4 b h i g)).trans (congrArg (fun s => pSum s Finset.univ) hs)
  unfold refMean mean
  rw [mean_eq _ _ _ (rowSum_pos hr b i h), hM, hS]
  refine (Equiv.sum_comp keyEquiv _).symm.trans (Finset.sum_congr rfl fun k _ => ?_)
  rw [refScore_key hc b i h k, ← hc.v k b h d]
  rfl

/-- What a device computes is the reference's result. -/
theorem outOf_eq (hc : Cuts A kw vw) (hr : Real A) (c : Dev Cert.KernelIdeal.nD) :
    outOf (insAt A) c = refOut (refW (refScore A.x A.wq kw)) vw A.wo := by
  funext j
  have hj : j = ix3 (j 0) (j 1) (j 2) := funext fun a => by fin_cases a <;> rfl
  rw [hj]
  refine (outOf_apply A c (j 0) (j 1) (j 2)).trans (Eq.symm ((refOut_apply _ (j 0) (j 1) vw A.wo (j 2)).trans ?_))
  exact Finset.sum_congr rfl fun x _ => congrArg (· * _) (refMean_eq hc hr _ _ _ _)

end Values

end Cert.Exchange

end
-- ==== Proof.Final.lean ====
/-
# The result array after the run

Every window is its whole array: what a window reads is the argument array, and what the run writes back is the value
computed on the device.
-/
module

public import proofs.«01_k».proof.Proof.Launch

@[expose] public section

noncomputable section

namespace Cert.Exchange

open Idealize.ShloMosaic
open Idealize.ShloMosaic.TcCoe
open Idealize.SL.Sem
open Cert.KernelIdeal Cert.KernelIdeal.Gen

variable {F : FTy → Type} [FloatOps F] [Named F] (m : (ℓ : Loc nD τ sig) → Buf (Elt F) ℓ) (ρ : Dev nD → PrngReg) (c : Dev nD)

/-! ## A window's block is its array -/

theorem read_x (f : Buf (Elt F) ((c : Thread nD τ).loc main_arg0)) : (win0_0.blk (0 : Fin 1)).view.read (Elt F) f = f := by
  funext j
  exact congrArg f (funext fun a => Fin.ext (by fin_cases a <;> exact show 0 + 1 * (j _).val = (j _).val by omega))
theorem read_wq (f : Buf (Elt F) ((c : Thread nD τ).loc main_arg1)) : (win0_1.blk (0 : Fin 1)).view.read (Elt F) f = f := by
  funext j
  exact congrArg f (funext fun a => Fin.ext (by fin_cases a <;> exact show 0 + 1 * (j _).val = (j _).val by omega))
theorem read_k (f : Buf (Elt F) ((c : Thread nD τ).loc main_arg2)) : (win0_2.blk (0 : Fin 1)).view.read (Elt F) f = f := by
  funext j
  exact congrArg f (funext fun a => Fin.ext (by fin_cases a <;> exact show 0 + 1 * (j _).val = (j _).val by omega))
theorem read_v (f : Buf (Elt F) ((c : Thread nD τ).loc main_arg3)) : (win0_3.blk (0 : Fin 1)).view.read (Elt F) f = f := by
  funext j
  exact congrArg f (funext fun a => Fin.ext (by fin_cases a <;> exact show 0 + 1 * (j _).val = (j _).val by omega))
theorem read_wo (f : Buf (Elt F) ((c : Thread nD τ).loc main_arg4)) : (win0_4.blk (0 : Fin 1)).view.read (Elt F) f = f := by
  funext j
  exact congrArg f (funext fun a => Fin.ext (by fin_cases a <;> exact show 0 + 1 * (j _).val = (j _).val by omega))
theorem read_out (f : Buf (Elt F) ((c : Thread nD τ).loc main_v1)) : (win0_5.blk (0 : Fin 1)).view.read (Elt F) f = f := by
  funext j
  exact congrArg f (funext fun a => Fin.ext (by fin_cases a <;> exact show 0 + 1 * (j _).val = (j _).val by omega))

/-- What a device computes from is its argument arrays. -/
theorem insOf_eq : insOf m ρ c
    = ⟨m ((c : Thread nD τ).loc main_arg0), m ((c : Thread nD τ).loc main_arg1), m ((c : Thread nD τ).loc main_arg2), m ((c : Thread nD τ).loc main_arg3), m ((c : Thread nD τ).loc main_arg4)⟩ := by
  have e0 := read_x c (m ((c : Thread nD τ).loc main_arg0))
  have e1 := read_wq c (m ((c : Thread nD τ).loc main_arg1))
  have e2 := read_k c (m ((c : Thread nD τ).loc main_arg2))
  have e3 := read_v c (m ((c : Thread nD τ).loc main_arg3))
  have e4 := read_wo c (m ((c : Thread nD τ).loc main_arg4))
  unfold insOf
  congr 1

/-- The result array after the run holds the value computed on the device. -/
theorem finalA_out : finalA m ρ c (5 : Fin 6) = outOf (insOf m ρ) c := by
  have hw : ((cfg0.win 5).blk t0_0).view.read (Elt F) ((dats m ρ 0 c).arrAt 5 cfg0.N) = (dats m ρ 0 c).flushed 5 t0_0 := by
    rw [show cfg0.N = t0_0.val + 1 from rfl, (dats m ρ 0 c).arrAt_succ (5 : Fin 6) t0_0, if_pos (by rfl)]
    exact View.read_write_univ _ _
  exact ((read_out c _).symm.trans hw).trans (funext fun _ => rfl)

end Cert.Exchange

end
-- ==== Proof.Algebraic.lean ====
/-
# The value claim

From memories that hold the same whole arrays, every device of the idealized kernel ends with the reference's result.
-/
module

public import proofs.«01_k».proof.Proof.Pre
public import proofs.«01_k».proof.Proof.Equal
public import proofs.«01_k».proof.Proof.Final

@[expose] public section

noncomputable section

namespace Cert.Exchange

open Idealize.ShloMosaic
open Idealize.ShloMosaic.TcCoe
open Idealize.SL.Sem
open Cert.KernelIdeal (nD τ sig main_arg0 main_arg1 main_arg2 main_arg3 main_arg4)

/-- A device's block of an array cut along the sequence, at an index. -/
theorem block_key (w : Cert.ReferenceIdeal.S2x2048x4x64.Idx → EReal) (k : Key) (b : Fin 2) (h : Fin 4) (d : Fin 64) :
    Layout.block ⟨4, ![2, 128, 4, 64]⟩ ⟨4, ![2, 2048, 4, 64]⟩ 1 16 k.1 w (by decide) (ix4 b k.2 h d) = w (ix4 b (keyEquiv k) h d) := by
  refine congrArg w (funext fun a => Fin.ext ?_)
  fin_cases a
  · rfl
  · exact show k.1.val * 128 + k.2.val = k.2.val + 128 * k.1.val by omega
  · rfl
  · rfl

section Memories

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The kernel's arrays: the whole ones and each device's keys and values. -/
def arraysOf : Arrays where
  x := m' (((0 : Dev Cert.ReferenceIdeal.nD) : Thread Cert.ReferenceIdeal.nD Cert.ReferenceIdeal.τ).loc Cert.ReferenceIdeal.main_arg0)
  wq := m' (((0 : Dev Cert.ReferenceIdeal.nD) : Thread Cert.ReferenceIdeal.nD Cert.ReferenceIdeal.τ).loc Cert.ReferenceIdeal.main_arg1)
  k c := m ((c : Thread nD τ).loc main_arg2)
  v c := m ((c : Thread nD τ).loc main_arg3)
  wo := m' (((0 : Dev Cert.ReferenceIdeal.nD) : Thread Cert.ReferenceIdeal.nD Cert.ReferenceIdeal.τ).loc Cert.ReferenceIdeal.main_arg4)

end Memories

/-- The idealized kernel computes the reference's result on every device, when the activations, the projection and the
    keys are finite. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := finiteFacts) := by
  intro m ρ m' ρ' hm h
  have hc : Cuts (arraysOf m m')
      (m' (((0 : Dev Cert.ReferenceIdeal.nD) : Thread Cert.ReferenceIdeal.nD Cert.ReferenceIdeal.τ).loc Cert.ReferenceIdeal.main_arg2))
      (m' (((0 : Dev Cert.ReferenceIdeal.nD) : Thread Cert.ReferenceIdeal.nD Cert.ReferenceIdeal.τ).loc Cert.ReferenceIdeal.main_arg3)) :=
    ⟨fun k b hd d => (congrFun (h k.1).2.2.1 _).trans (block_key _ k b hd d), fun k b hd d => (congrFun (h k.1).2.2.2.1 _).trans (block_key _ k b hd d)⟩
  have hr : Real (arraysOf m m') :=
    ⟨fun j => Eq.subst (motive := IsReal) (congrFun (h 0).1 j) (real_x hm 0 j),
      fun j => Eq.subst (motive := IsReal) (congrFun (h 0).2.1 j) (real_wq hm 0 j), fun c j => real_k hm c j⟩
  have hi : insOf (F := Ideal) m ρ = insAt (arraysOf m m') := by
    funext c
    rw [insOf_eq, (h c).1, (h c).2.1, (h c).2.2.2.2]
    rfl
  refine ⟨Cert.ReferenceIdeal.Value.res_main_v44 m' 0, ?_, ?_⟩
  · refine (θ_run Cert.KernelIdeal.defs _ _).mono (fun r hr' c => ?_) (run_main (F := Ideal) m ρ)
    refine ⟨?_, (hr'.1 c (0 : Fin 6)).trans (finalA_in m ρ c 0 rfl), (hr'.1 c (1 : Fin 6)).trans (finalA_in m ρ c 1 rfl),
      (hr'.1 c (2 : Fin 6)).trans (finalA_in m ρ c 2 rfl), (hr'.1 c (3 : Fin 6)).trans (finalA_in m ρ c 3 rfl),
      (hr'.1 c (4 : Fin 6)).trans (finalA_in m ρ c 4 rfl)⟩
    refine (hr'.1 c (5 : Fin 6)).trans ((finalA_out m ρ c).trans ?_)
    rw [hi]
    exact (outOf_eq hc hr c).trans (Cert.Whole.res_eq m' 0).symm
  · exact (θ_run Cert.ReferenceIdeal.defs _ _).mono (fun r h' => h' 0) (Cert.ReferenceIdeal.Value.run m' ρ')

end Cert.Exchange

end
-- ==== Proof.lean ====
/-
# The claim

Every claim of `Defs.lean`, assembled from the modules under `Proof/`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

/-- The frames, the named constant, and the value: every device of the idealized kernel computes the reference's result. -/
theorem claim : Cert.Claim :=
  ⟨Cert.Kernel.Gen.facts, Cert.KernelIdeal.Gen.facts, Cert.ReferenceIdeal.Gen.facts, Cert.Exchange.finiteFacts, Cert.Exchange.finiteFactsRef,
    Cert.Exchange.frame_kernel, Cert.Exchange.frame_kernelIdeal, fun m ρ _ => Cert.Exchange.frame_kernelIdeal m ρ trivial,
    Cert.Exchange.frame_referenceIdeal, fun m ρ _ => Cert.Exchange.frame_referenceIdeal m ρ trivial,
    Cert.Exchange.masks, Cert.Exchange.algebraic⟩

end Cert.Proof

end
